-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range [hPre_scale_in_range : Cert.Pre_scale_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range [hPre_scale_in_range : Cert.Pre_scale_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scale_in_range [hKernelIdeal : Cert.KernelIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scale_in_range [hReferenceIdeal : Cert.ReferenceIdeal.Facts] [hPre_scale_in_range : Cert.Pre_scale_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scale_in_range [hKernelIdeal : Cert.KernelIdeal.Facts] [hReferenceIdeal : Cert.ReferenceIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_v4_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scale_in_range : Cert.Pre_scale_in_range.Facts),
    quiescent_Kernel (hKernel := hKernel)
    ∧ quiescent_KernelIdeal (hKernelIdeal := hKernelIdeal)
    ∧ quiescent_KernelIdeal_pre_scale_in_range (hKernelIdeal := hKernelIdeal) (hPre_scale_in_range := hPre_scale_in_range)
    ∧ quiescent_ReferenceIdeal (hReferenceIdeal := hReferenceIdeal)
    ∧ quiescent_ReferenceIdeal_pre_scale_in_range (hReferenceIdeal := hReferenceIdeal) (hPre_scale_in_range := hPre_scale_in_range)
    ∧ preserves_Kernel_KernelIdeal
    ∧ algebraic_KernelIdeal_ReferenceIdeal_pre_scale_in_range (hKernelIdeal := hKernelIdeal) (hReferenceIdeal := hReferenceIdeal) (hPre_scale_in_range := hPre_scale_in_range)
-- ==== Pre_scale_in_range.lean ====
abbrev S2x1024x16384 : Shape := ⟨3, ![2, 1024, 16384]⟩
abbrev S16384 : Shape := ⟨1, ![16384]⟩
abbrev S16 : Shape := ⟨1, ![16]⟩
abbrev S_ : Shape := ⟨0, ![]⟩

class Facts : Prop where
  reducesTo_S16_S_d0 : S16.ReducesTo [0] S_
  h_S_ : 0 < S_.numel

variable [Facts]

def fn {F : FTy → Type} [FloatOps F] (main_arg0 : FVec F S2x1024x16384 .bf16) (main_arg1 : FVec F S16384 .f32) (main_arg2 : FVec F S16384 .f32) (main_arg3 : FVec F S16 .f32) : IVec S_ 1 :=
  let main_cst : FVec F S_ .f32 := constant S_ .f32 0xFF800000#32
  let main_v0 : FVec F S_ .f32 := (fun x v => Host.reduce FloatOps.maximumf x v reducesTo_S16_S_d0 h_S_) main_arg3 main_cst
  let main_cst_0 : FVec F S_ .f32 := constant S_ .f32 0x3B124925#32
  let main_v1 : FVec F S_ .f32 := mulf main_v0 main_cst_0
  let main_v2 : FVec F S_ .f32 := Host.absf main_v1
  let main_cst_1 : FVec F S_ .f32 := constant S_ .f32 0x7E800000#32
  let main_v3 : IVec S_ 1 := cmpf .olt main_v2 main_cst_1
  let main_cst_2 : FVec F S_ .f32 := constant S_ .f32 0x00000000#32
  let main_v4 : IVec S_ 1 := cmpf .oeq main_v0 main_cst_2
  let main_cst_3 : FVec F S_ .f32 := constant S_ .f32 0x00800000#32
  let main_v5 : IVec S_ 1 := cmpf .oge main_v2 main_cst_3
  let main_v6 : IVec S_ 1 := ori main_v4 main_v5
  let main_v7 : IVec S_ 1 := andi main_v3 main_v6
  main_v7
-- ==== Kernel.lean ====
abbrev S2x1024x16384 : Shape := ⟨3, ![2, 1024, 16384]⟩
abbrev S16384 : Shape := ⟨1, ![16384]⟩
abbrev S16 : Shape := ⟨1, ![16]⟩
abbrev S1x16 : Shape := ⟨2, ![1, 16]⟩
abbrev S1x16384 : Shape := ⟨2, ![1, 16384]⟩
abbrev S2048x16384 : Shape := ⟨2, ![2048, 16384]⟩
abbrev S16384x2048 : Shape := ⟨2, ![16384, 2048]⟩
abbrev S1x1 : Shape := ⟨2, ![1, 1]⟩
abbrev S16x1x128 : Shape := ⟨3, ![16, 1, 128]⟩
abbrev S128x16384 : Shape := ⟨2, ![128, 16384]⟩
abbrev S16384x128 : Shape := ⟨2, ![16384, 128]⟩
abbrev S1x1x128 : Shape := ⟨3, ![1, 1, 128]⟩
abbrev S128x128 : Shape := ⟨2, ![128, 128]⟩
abbrev S8x128 : Shape := ⟨2, ![8, 128]⟩
abbrev S8x256 : Shape := ⟨2, ![8, 256]⟩
abbrev S1 : Shape := ⟨1, ![1]⟩
abbrev S1x255 : Shape := ⟨2, ![1, 255]⟩
abbrev S128 : Shape := ⟨1, ![128]⟩
abbrev S128x1 : Shape := ⟨2, ![128, 1]⟩
abbrev S1x128x1 : Shape := ⟨3, ![1, 128, 1]⟩
abbrev S1x1x1 : Shape := ⟨3, ![1, 1, 1]⟩
abbrev S1x128 : Shape := ⟨2, ![1, 128]⟩
abbrev S16x8x128 : Shape := ⟨3, ![16, 8, 128]⟩
abbrev S1x8x128 : Shape := ⟨3, ![1, 8, 128]⟩

abbrev nBuf : Space → Nat
  | .hbm => 14
  | .vmem => 19
  | .smem => 0
  | _ => 0

abbrev bufTy : (tb : Table) → Fin (tcTables nBuf tb) → BufTy
  | .hbm, ⟨0, _⟩ => ⟨S2x1024x16384, .bf16⟩
  | .hbm, ⟨1, _⟩ => ⟨S16384, .f32⟩
  | .hbm, ⟨2, _⟩ => ⟨S16384, .f32⟩
  | .hbm, ⟨3, _⟩ => ⟨S16, .f32⟩
  | .hbm, ⟨4, _⟩ => ⟨S1x16, .f32⟩
  | .hbm, ⟨5, _⟩ => ⟨S1x16384, .f32⟩
  | .hbm, ⟨6, _⟩ => ⟨S1x16384, .f32⟩
  | .hbm, ⟨7, _⟩ => ⟨S2048x16384, .bf16⟩
  | .hbm, ⟨8, _⟩ => ⟨S2048x16384, .fp8e4m3⟩
  | .hbm, ⟨9, _⟩ => ⟨S16384x2048, .fp8e4m3⟩
  | .hbm, ⟨10, _⟩ => ⟨S1x1, .f32⟩
  | .hbm, ⟨11, _⟩ => ⟨S1x1, .f32⟩
  | .hbm, ⟨12, _⟩ => ⟨S16x1x128, .f32⟩
  | .hbm, ⟨13, _⟩ => ⟨S16x1x128, .f32⟩
  | .local _ .vmem, ⟨0, _⟩ => ⟨S1x16, .f32⟩
  | .local _ .vmem, ⟨1, _⟩ => ⟨S1x16384, .f32⟩
  | .local _ .vmem, ⟨2, _⟩ => ⟨S1x16384, .f32⟩
  | .local _ .vmem, ⟨3, _⟩ => ⟨S128x16384, .bf16⟩
  | .local _ .vmem, ⟨4, _⟩ => ⟨S128x16384, .bf16⟩
  | .local _ .vmem, ⟨5, _⟩ => ⟨S128x16384, .fp8e4m3⟩
  | .local _ .vmem, ⟨6, _⟩ => ⟨S128x16384, .fp8e4m3⟩
  | .local _ .vmem, ⟨7, _⟩ => ⟨S16384x128, .fp8e4m3⟩
  | .local _ .vmem, ⟨8, _⟩ => ⟨S16384x128, .fp8e4m3⟩
  | .local _ .vmem, ⟨9, _⟩ => ⟨S1x1, .f32⟩
  | .local _ .vmem, ⟨10, _⟩ => ⟨S1x1, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S128x128, .f32⟩
  | .local _ .vmem, ⟨16, _⟩ => ⟨S128x128, .f32⟩
  | .local _ .vmem, ⟨17, _⟩ => ⟨S8x128, .f32⟩
  | .local _ .vmem, ⟨18, _⟩ => ⟨S8x256, .bf16⟩
  | _, _ => ⟨S2x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_14 : BitVec 32 := 0#32
  let c8_i32 : BitVec 32 := 8#32
  let v47 : BitVec 32 := Scalar.addi c0_i32_14 c8_i32
  let c1_i32_15 : BitVec 32 := 1#32
  ⟨c0_i32_14, v47, c1_i32_15⟩
def k0_mult1 (k0_t1 : Fin k0_t1_loop.trips) : BitVec 32 :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let c0_i32_120 : BitVec 32 := 0#32
  let v272 : BitVec 32 := Scalar.addi v271 c0_i32_120
  v272
def k0_mult2 (k0_t1 : Fin k0_t1_loop.trips) : BitVec 32 :=
  let c0_i32_14 : BitVec 32 := 0#32
  let c1_i32_15 : BitVec 32 := 1#32
  let arg15 : BitVec 32 := Scf.iv c0_i32_14 c1_i32_15 k0_t1
  let c16_i32_121 : BitVec 32 := 16#32
  let v274 : BitVec 32 := Scalar.muli arg15 c16_i32_121
  let c8_i32_122 : BitVec 32 := 8#32
  let v275 : BitVec 32 := Scalar.addi v274 c8_i32_122
  v275
def k0_off1 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v277 : Index := Scalar.indexCast v273
  let c0_123 : Index := 0#32
  ![v277.toNat, 0]
def k0_off2 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v289 : Index := Scalar.indexCast v273
  let c256 : Index := 256#32
  ![v289.toNat, 256]
def k0_off3 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v305 : Index := Scalar.indexCast v273
  let c512 : Index := 512#32
  ![v305.toNat, 512]
def k0_off4 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v321 : Index := Scalar.indexCast v273
  let c768 : Index := 768#32
  ![v321.toNat, 768]
def k0_off5 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v337 : Index := Scalar.indexCast v273
  let c1024 : Index := 1024#32
  ![v337.toNat, 1024]
def k0_off6 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v353 : Index := Scalar.indexCast v273
  let c1280 : Index := 1280#32
  ![v353.toNat, 1280]
def k0_off7 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v369 : Index := Scalar.indexCast v273
  let c1536 : Index := 1536#32
  ![v369.toNat, 1536]
def k0_off8 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v385 : Index := Scalar.indexCast v273
  let c1792 : Index := 1792#32
  ![v385.toNat, 1792]
def k0_off9 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v401 : Index := Scalar.indexCast v273
  let c2048 : Index := 2048#32
  ![v401.toNat, 2048]
def k0_off10 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v417 : Index := Scalar.indexCast v273
  let c2304 : Index := 2304#32
  ![v417.toNat, 2304]
def k0_off11 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v433 : Index := Scalar.indexCast v273
  let c2560 : Index := 2560#32
  ![v433.toNat, 2560]
def k0_off12 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v449 : Index := Scalar.indexCast v273
  let c2816 : Index := 2816#32
  ![v449.toNat, 2816]
def k0_off13 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v465 : Index := Scalar.indexCast v273
  let c3072 : Index := 3072#32
  ![v465.toNat, 3072]
def k0_off14 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v481 : Index := Scalar.indexCast v273
  let c3328 : Index := 3328#32
  ![v481.toNat, 3328]
def k0_off15 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v497 : Index := Scalar.indexCast v273
  let c3584 : Index := 3584#32
  ![v497.toNat, 3584]
def k0_off16 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v513 : Index := Scalar.indexCast v273
  let c3840 : Index := 3840#32
  ![v513.toNat, 3840]
def k0_off17 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v529 : Index := Scalar.indexCast v273
  let c4096 : Index := 4096#32
  ![v529.toNat, 4096]
def k0_off18 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v545 : Index := Scalar.indexCast v273
  let c4352 : Index := 4352#32
  ![v545.toNat, 4352]
def k0_off19 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v561 : Index := Scalar.indexCast v273
  let c4608 : Index := 4608#32
  ![v561.toNat, 4608]
def k0_off20 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v577 : Index := Scalar.indexCast v273
  let c4864 : Index := 4864#32
  ![v577.toNat, 4864]
def k0_off21 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v593 : Index := Scalar.indexCast v273
  let c5120 : Index := 5120#32
  ![v593.toNat, 5120]
def k0_off22 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v609 : Index := Scalar.indexCast v273
  let c5376 : Index := 5376#32
  ![v609.toNat, 5376]
def k0_off23 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v625 : Index := Scalar.indexCast v273
  let c5632 : Index := 5632#32
  ![v625.toNat, 5632]
def k0_off24 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v641 : Index := Scalar.indexCast v273
  let c5888 : Index := 5888#32
  ![v641.toNat, 5888]
def k0_off25 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v657 : Index := Scalar.indexCast v273
  let c6144 : Index := 6144#32
  ![v657.toNat, 6144]
def k0_off26 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v673 : Index := Scalar.indexCast v273
  let c6400 : Index := 6400#32
  ![v673.toNat, 6400]
def k0_off27 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v689 : Index := Scalar.indexCast v273
  let c6656 : Index := 6656#32
  ![v689.toNat, 6656]
def k0_off28 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v705 : Index := Scalar.indexCast v273
  let c6912 : Index := 6912#32
  ![v705.toNat, 6912]
def k0_off29 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v721 : Index := Scalar.indexCast v273
  let c7168 : Index := 7168#32
  ![v721.toNat, 7168]
def k0_off30 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v737 : Index := Scalar.indexCast v273
  let c7424 : Index := 7424#32
  ![v737.toNat, 7424]
def k0_off31 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v753 : Index := Scalar.indexCast v273
  let c7680 : Index := 7680#32
  ![v753.toNat, 7680]
def k0_off32 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v769 : Index := Scalar.indexCast v273
  let c7936 : Index := 7936#32
  ![v769.toNat, 7936]
def k0_off33 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v785 : Index := Scalar.indexCast v273
  let c8192 : Index := 8192#32
  ![v785.toNat, 8192]
def k0_off34 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v801 : Index := Scalar.indexCast v273
  let c8448 : Index := 8448#32
  ![v801.toNat, 8448]
def k0_off35 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v817 : Index := Scalar.indexCast v273
  let c8704 : Index := 8704#32
  ![v817.toNat, 8704]
def k0_off36 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v833 : Index := Scalar.indexCast v273
  let c8960 : Index := 8960#32
  ![v833.toNat, 8960]
def k0_off37 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v849 : Index := Scalar.indexCast v273
  let c9216 : Index := 9216#32
  ![v849.toNat, 9216]
def k0_off38 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v865 : Index := Scalar.indexCast v273
  let c9472 : Index := 9472#32
  ![v865.toNat, 9472]
def k0_off39 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v881 : Index := Scalar.indexCast v273
  let c9728 : Index := 9728#32
  ![v881.toNat, 9728]
def k0_off40 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v897 : Index := Scalar.indexCast v273
  let c9984 : Index := 9984#32
  ![v897.toNat, 9984]
def k0_off41 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v913 : Index := Scalar.indexCast v273
  let c10240 : Index := 10240#32
  ![v913.toNat, 10240]
def k0_off42 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v929 : Index := Scalar.indexCast v273
  let c10496 : Index := 10496#32
  ![v929.toNat, 10496]
def k0_off43 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v945 : Index := Scalar.indexCast v273
  let c10752 : Index := 10752#32
  ![v945.toNat, 10752]
def k0_off44 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v961 : Index := Scalar.indexCast v273
  let c11008 : Index := 11008#32
  ![v961.toNat, 11008]
def k0_off45 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v977 : Index := Scalar.indexCast v273
  let c11264 : Index := 11264#32
  ![v977.toNat, 11264]
def k0_off46 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v993 : Index := Scalar.indexCast v273
  let c11520 : Index := 11520#32
  ![v993.toNat, 11520]
def k0_off47 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1009 : Index := Scalar.indexCast v273
  let c11776 : Index := 11776#32
  ![v1009.toNat, 11776]
def k0_off48 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1025 : Index := Scalar.indexCast v273
  let c12032 : Index := 12032#32
  ![v1025.toNat, 12032]
def k0_off49 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1041 : Index := Scalar.indexCast v273
  let c12288 : Index := 12288#32
  ![v1041.toNat, 12288]
def k0_off50 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1057 : Index := Scalar.indexCast v273
  let c12544 : Index := 12544#32
  ![v1057.toNat, 12544]
def k0_off51 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1073 : Index := Scalar.indexCast v273
  let c12800 : Index := 12800#32
  ![v1073.toNat, 12800]
def k0_off52 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1089 : Index := Scalar.indexCast v273
  let c13056 : Index := 13056#32
  ![v1089.toNat, 13056]
def k0_off53 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1105 : Index := Scalar.indexCast v273
  let c13312 : Index := 13312#32
  ![v1105.toNat, 13312]
def k0_off54 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1121 : Index := Scalar.indexCast v273
  let c13568 : Index := 13568#32
  ![v1121.toNat, 13568]
def k0_off55 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1137 : Index := Scalar.indexCast v273
  let c13824 : Index := 13824#32
  ![v1137.toNat, 13824]
def k0_off56 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1153 : Index := Scalar.indexCast v273
  let c14080 : Index := 14080#32
  ![v1153.toNat, 14080]
def k0_off57 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1169 : Index := Scalar.indexCast v273
  let c14336 : Index := 14336#32
  ![v1169.toNat, 14336]
def k0_off58 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1185 : Index := Scalar.indexCast v273
  let c14592 : Index := 14592#32
  ![v1185.toNat, 14592]
def k0_off59 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1201 : Index := Scalar.indexCast v273
  let c14848 : Index := 14848#32
  ![v1201.toNat, 14848]
def k0_off60 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1217 : Index := Scalar.indexCast v273
  let c15104 : Index := 15104#32
  ![v1217.toNat, 15104]
def k0_off61 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1233 : Index := Scalar.indexCast v273
  let c15360 : Index := 15360#32
  ![v1233.toNat, 15360]
def k0_off62 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1249 : Index := Scalar.indexCast v273
  let c15616 : Index := 15616#32
  ![v1249.toNat, 15616]
def k0_off63 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1265 : Index := Scalar.indexCast v273
  let c15872 : Index := 15872#32
  ![v1265.toNat, 15872]
def k0_off64 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1281 : Index := Scalar.indexCast v273
  let c16128 : Index := 16128#32
  ![v1281.toNat, 16128]
def k0_off65 (k0_t1 : Fin k0_t1_loop.trips) (c0_i32_120 : BitVec 32) : Fin 2 → Nat :=
  let c0_i32_14 : BitVec 32 := 0#32
  let c1_i32_15 : BitVec 32 := 1#32
  let arg15 : BitVec 32 := Scf.iv c0_i32_14 c1_i32_15 k0_t1
  let c16_i32 : BitVec 32 := 16#32
  let v271 : BitVec 32 := Scalar.muli arg15 c16_i32
  let v272 : BitVec 32 := Scalar.addi v271 c0_i32_120
  let v273 : BitVec 32 := v272
  let v1300 : Index := Scalar.indexCast v273
  let c0_188 : Index := 0#32
  ![v1300.toNat, 0]
@[reducible] def k0_t2_loop : Scf.Loop 32 :=
  let c0_i32_119 : BitVec 32 := 0#32
  let c128_i32_120 : BitVec 32 := 128#32
  let v270 : BitVec 32 := Scalar.addi c0_i32_119 c128_i32_120
  let c1_i32_121 : BitVec 32 := 1#32
  ⟨c0_i32_119, v270, c1_i32_121⟩
def k0_mult3 (k0_t2 : Fin k0_t2_loop.trips) : BitVec 32 :=
  let c0_i32_119 : BitVec 32 := 0#32
  let c1_i32_121 : BitVec 32 := 1#32
  let arg15 : BitVec 32 := Scf.iv c0_i32_119 c1_i32_121 k0_t2
  let c128_i32_128 : BitVec 32 := 128#32
  let v284 : BitVec 32 := Scalar.muli arg15 c128_i32_128
  v284
def k0_off66 (k0_t2 : Fin k0_t2_loop.trips) : Fin 2 → Nat :=
  let c0_129 : Index := 0#32
  let c0_i32_119 : BitVec 32 := 0#32
  let c1_i32_121 : BitVec 32 := 1#32
  let arg15 : BitVec 32 := Scf.iv c0_i32_119 c1_i32_121 k0_t2
  let c128_i32_128 : BitVec 32 := 128#32
  let v284 : BitVec 32 := Scalar.muli arg15 c128_i32_128
  let v285 : BitVec 32 := v284
  let v286 : Index := Scalar.indexCast v285
  ![0, v286.toNat]
def k0_mult4 : BitVec 32 :=
  let c0_i32_48 : BitVec 32 := 0#32
  c0_i32_48
def k0_off67 (c0_i32_48 : BitVec 32) (c0_i32_49 : BitVec 32) : Fin 2 → Nat :=
  let c0_50 : Index := 0#32
  let v97 : BitVec 32 := c0_i32_48
  let v98 : BitVec 32 := Scalar.addi v97 c0_i32_49
  let v99 : Index := Scalar.indexCast v98
  ![0, v99.toNat]
def k0_off68 (c0_i32_49 : BitVec 32) : Fin 2 → Nat :=
  let c0_55 : Index := 0#32
  let c0_i32_48 : BitVec 32 := 0#32
  let v97 : BitVec 32 := c0_i32_48
  let v98 : BitVec 32 := Scalar.addi v97 c0_i32_49
  let v107 : Index := Scalar.indexCast v98
  ![0, v107.toNat]
def k0_mult5 : BitVec 32 :=
  let c0_i32_61 : BitVec 32 := 0#32
  c0_i32_61
def k0_mult6 : BitVec 32 :=
  let c0_i32_73 : BitVec 32 := 0#32
  c0_i32_73
def k0_mult7 : BitVec 32 :=
  let c0_i32_85 : BitVec 32 := 0#32
  c0_i32_85
@[reducible] def k0_t3_loop : Scf.Loop 32 :=
  let c1_i32_97 : BitVec 32 := 1#32
  let c31_i32 : BitVec 32 := 31#32
  let v229 : BitVec 32 := Scalar.addi c1_i32_97 c31_i32
  let c1_i32_98 : BitVec 32 := 1#32
  ⟨c1_i32_97, v229, c1_i32_98⟩
def k0_mult8 (k0_t3 : Fin k0_t3_loop.trips) : BitVec 32 :=
  let c1_i32_97 : BitVec 32 := 1#32
  let c1_i32_98 : BitVec 32 := 1#32
  let arg15 : BitVec 32 := Scf.iv c1_i32_97 c1_i32_98 k0_t3
  let c1_i32_118 : BitVec 32 := 1#32
  let v269 : BitVec 32 := Scalar.subi arg15 c1_i32_118
  let c512_i32 : BitVec 32 := 512#32
  let v270 : BitVec 32 := Scalar.muli v269 c512_i32
  v270
def k0_off69 (k0_t3 : Fin k0_t3_loop.trips) (c0_i32_119 : BitVec 32) : Fin 2 → Nat :=
  let c0_120 : Index := 0#32
  let c1_i32_97 : BitVec 32 := 1#32
  let c1_i32_98 : BitVec 32 := 1#32
  let arg15 : BitVec 32 := Scf.iv c1_i32_97 c1_i32_98 k0_t3
  let c1_i32_118 : BitVec 32 := 1#32
  let v269 : BitVec 32 := Scalar.subi arg15 c1_i32_118
  let c512_i32 : BitVec 32 := 512#32
  let v270 : BitVec 32 := Scalar.muli v269 c512_i32
  let v271 : BitVec 32 := v270
  let v272 : BitVec 32 := Scalar.addi v271 c0_i32_119
  let v273 : Index := Scalar.indexCast v272
  ![0, v273.toNat]
def k0_off70 (k0_t3 : Fin k0_t3_loop.trips) (c0_i32_119 : BitVec 32) : Fin 2 → Nat :=
  let c1_i32_97 : BitVec 32 := 1#32
  let c1_i32_98 : BitVec 32 := 1#32
  let arg15 : BitVec 32 := Scf.iv c1_i32_97 c1_i32_98 k0_t3
  let c1_i32_118 : BitVec 32 := 1#32
  let v269 : BitVec 32 := Scalar.subi arg15 c1_i32_118
  let c512_i32 : BitVec 32 := 512#32
  let v270 : BitVec 32 := Scalar.muli v269 c512_i32
  let v271 : BitVec 32 := v270
  let v272 : BitVec 32 := Scalar.addi v271 c0_i32_119
  let v277 : Index := Scalar.indexCast v272
  let c0_121 : Index := 0#32
  ![v277.toNat, 0]
def k0_mult9 (k0_t3 : Fin k0_t3_loop.trips) : BitVec 32 :=
  let c1_i32_97 : BitVec 32 := 1#32
  let c1_i32_98 : BitVec 32 := 1#32
  let arg15 : BitVec 32 := Scf.iv c1_i32_97 c1_i32_98 k0_t3
  let c1_i32_118 : BitVec 32 := 1#32
  let v269 : BitVec 32 := Scalar.subi arg15 c1_i32_118
  let c512_i32_122 : BitVec 32 := 512#32
  let v279 : BitVec 32 := Scalar.muli v269 c512_i32_122
  v279
def k0_mult10 (k0_t3 : Fin k0_t3_loop.trips) : BitVec 32 :=
  let c1_i32_97 : BitVec 32 := 1#32
  let c1_i32_98 : BitVec 32 := 1#32
  let arg15 : BitVec 32 := Scf.iv c1_i32_97 c1_i32_98 k0_t3
  let c1_i32_118 : BitVec 32 := 1#32
  let v269 : BitVec 32 := Scalar.subi arg15 c1_i32_118
  let c512_i32_126 : BitVec 32 := 512#32
  let v288 : BitVec 32 := Scalar.muli v269 c512_i32_126
  v288
def k0_mult11 (k0_t3 : Fin k0_t3_loop.trips) : BitVec 32 :=
  let c1_i32_97 : BitVec 32 := 1#32
  let c1_i32_98 : BitVec 32 := 1#32
  let arg15 : BitVec 32 := Scf.iv c1_i32_97 c1_i32_98 k0_t3
  let c1_i32_118 : BitVec 32 := 1#32
  let v269 : BitVec 32 := Scalar.subi arg15 c1_i32_118
  let c512_i32_130 : BitVec 32 := 512#32
  let v297 : BitVec 32 := Scalar.muli v269 c512_i32_130
  v297
def k0_mult12 (k0_t3 : Fin k0_t3_loop.trips) : BitVec 32 :=
  let c1_i32_97 : BitVec 32 := 1#32
  let c1_i32_98 : BitVec 32 := 1#32
  let arg15 : BitVec 32 := Scf.iv c1_i32_97 c1_i32_98 k0_t3
  let c512_i32_134 : BitVec 32 := 512#32
  let v306 : BitVec 32 := Scalar.muli arg15 c512_i32_134
  v306
def k0_off71 (k0_t3 : Fin k0_t3_loop.trips) (c0_i32_135 : BitVec 32) : Fin 2 → Nat :=
  let c0_136 : Index := 0#32
  let c1_i32_97 : BitVec 32 := 1#32
  let c1_i32_98 : BitVec 32 := 1#32
  let arg15 : BitVec 32 := Scf.iv c1_i32_97 c1_i32_98 k0_t3
  let c512_i32_134 : BitVec 32 := 512#32
  let v306 : BitVec 32 := Scalar.muli arg15 c512_i32_134
  let v307 : BitVec 32 := v306
  let v308 : BitVec 32 := Scalar.addi v307 c0_i32_135
  let v309 : Index := Scalar.indexCast v308
  ![0, v309.toNat]
def k0_off72 (k0_t3 : Fin k0_t3_loop.trips) (c0_i32_135 : BitVec 32) : Fin 2 → Nat :=
  let c0_141 : Index := 0#32
  let c1_i32_97 : BitVec 32 := 1#32
  let c1_i32_98 : BitVec 32 := 1#32
  let arg15 : BitVec 32 := Scf.iv c1_i32_97 c1_i32_98 k0_t3
  let c512_i32_134 : BitVec 32 := 512#32
  let v306 : BitVec 32 := Scalar.muli arg15 c512_i32_134
  let v307 : BitVec 32 := v306
  let v308 : BitVec 32 := Scalar.addi v307 c0_i32_135
  let v317 : Index := Scalar.indexCast v308
  ![0, v317.toNat]
def k0_mult13 (k0_t3 : Fin k0_t3_loop.trips) : BitVec 32 :=
  let c1_i32_97 : BitVec 32 := 1#32
  let c1_i32_98 : BitVec 32 := 1#32
  let arg15 : BitVec 32 := Scf.iv c1_i32_97 c1_i32_98 k0_t3
  let c512_i32_147 : BitVec 32 := 512#32
  let v340 : BitVec 32 := Scalar.muli arg15 c512_i32_147
  v340
def k0_mult14 (k0_t3 : Fin k0_t3_loop.trips) : BitVec 32 :=
  let c1_i32_97 : BitVec 32 := 1#32
  let c1_i32_98 : BitVec 32 := 1#32
  let arg15 : BitVec 32 := Scf.iv c1_i32_97 c1_i32_98 k0_t3
  let c512_i32_160 : BitVec 32 := 512#32
  let v374 : BitVec 32 := Scalar.muli arg15 c512_i32_160
  v374
def k0_mult15 (k0_t3 : Fin k0_t3_loop.trips) : BitVec 32 :=
  let c1_i32_97 : BitVec 32 := 1#32
  let c1_i32_98 : BitVec 32 := 1#32
  let arg15 : BitVec 32 := Scf.iv c1_i32_97 c1_i32_98 k0_t3
  let c512_i32_173 : BitVec 32 := 512#32
  let v408 : BitVec 32 := Scalar.muli arg15 c512_i32_173
  v408
def k0_mult16 : BitVec 32 :=
  let c15872_i32 : BitVec 32 := 15872#32
  c15872_i32
def k0_off73 (c0_i32_102 : BitVec 32) : Fin 2 → Nat :=
  let c15872_i32 : BitVec 32 := 15872#32
  let v234 : BitVec 32 := c15872_i32
  let v235 : BitVec 32 := Scalar.addi v234 c0_i32_102
  let v240 : Index := Scalar.indexCast v235
  let c0_104 : Index := 0#32
  ![v240.toNat, 0]
def k0_mult17 : BitVec 32 :=
  let c15872_i32_105 : BitVec 32 := 15872#32
  c15872_i32_105
def k0_mult18 : BitVec 32 :=
  let c15872_i32_109 : BitVec 32 := 15872#32
  c15872_i32_109
def k0_mult19 : BitVec 32 :=
  let c15872_i32_113 : BitVec 32 := 15872#32
  c15872_i32_113
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c15_i32 : BitVec 32 := 15#32
  let v266 : BitVec 1 := Scalar.cmpi .eq arg0 c15_i32
  let v267 : BitVec 32 := Scalar.extui v266
  let c0_i32_117 : BitVec 32 := 0#32
  let v268 : BitVec 1 := Scalar.cmpi .ne v267 c0_i32_117
  v268

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x16384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16384x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x1024x16384 : Shape := ⟨3, ![2, 1024, 16384]⟩
abbrev S16384 : Shape := ⟨1, ![16384]⟩
abbrev S16 : Shape := ⟨1, ![16]⟩
abbrev S2048x16384 : Shape := ⟨2, ![2048, 16384]⟩
abbrev S1x16384 : Shape := ⟨2, ![1, 16384]⟩
abbrev S1x16 : Shape := ⟨2, ![1, 16]⟩
abbrev S16384x2048 : Shape := ⟨2, ![16384, 2048]⟩
abbrev S1x1 : Shape := ⟨2, ![1, 1]⟩
abbrev S16x1x128 : Shape := ⟨3, ![16, 1, 128]⟩
abbrev S2048 : Shape := ⟨1, ![2048]⟩
abbrev S2048x1 : Shape := ⟨2, ![2048, 1]⟩
abbrev S1 : Shape := ⟨1, ![1]⟩
abbrev S1x254 : Shape := ⟨2, ![1, 254]⟩
abbrev S1x2048 : Shape := ⟨2, ![1, 2048]⟩
abbrev S16384x1 : Shape := ⟨2, ![16384, 1]⟩
abbrev S1x2048x16384 : Shape := ⟨3, ![1, 2048, 16384]⟩
abbrev S1x1x1 : Shape := ⟨3, ![1, 1, 1]⟩

abbrev nBuf : Space → Nat
  | .hbm => 14
  | .vmem => 10
  | .smem => 0
  | _ => 0

abbrev bufTy : (tb : Table) → Fin (tcTables nBuf tb) → BufTy
  | .hbm, ⟨0, _⟩ => ⟨S2x1024x16384, .bf16⟩
  | .hbm, ⟨1, _⟩ => ⟨S16384, .f32⟩
  | .hbm, ⟨2, _⟩ => ⟨S16384, .f32⟩
  | .hbm, ⟨3, _⟩ => ⟨S16, .f32⟩
  | .hbm, ⟨4, _⟩ => ⟨S2048x16384, .bf16⟩
  | .hbm, ⟨5, _⟩ => ⟨S1x16384, .f32⟩
  | .hbm, ⟨6, _⟩ => ⟨S1x16384, .f32⟩
  | .hbm, ⟨7, _⟩ => ⟨S1x16, .f32⟩
  | .hbm, ⟨8, _⟩ => ⟨S2048x16384, .fp8e4m3⟩
  | .hbm, ⟨9, _⟩ => ⟨S16384x2048, .fp8e4m3⟩
  | .hbm, ⟨10, _⟩ => ⟨S1x1, .f32⟩
  | .hbm, ⟨11, _⟩ => ⟨S1x1, .f32⟩
  | .hbm, ⟨12, _⟩ => ⟨S16x1x128, .f32⟩
  | .hbm, ⟨13, _⟩ => ⟨S16x1x128, .f32⟩
  | .local _ .vmem, ⟨0, _⟩ => ⟨S2048x16384, .bf16⟩
  | .local _ .vmem, ⟨1, _⟩ => ⟨S1x16384, .f32⟩
  | .local _ .vmem, ⟨2, _⟩ => ⟨S1x16384, .f32⟩
  | .local _ .vmem, ⟨3, _⟩ => ⟨S1x16, .f32⟩
  | .local _ .vmem, ⟨4, _⟩ => ⟨S2048x16384, .fp8e4m3⟩
  | .local _ .vmem, ⟨5, _⟩ => ⟨S16384x2048, .fp8e4m3⟩
  | .local _ .vmem, ⟨6, _⟩ => ⟨S1x1, .f32⟩
  | .local _ .vmem, ⟨7, _⟩ => ⟨S1x1, .f32⟩
  | .local _ .vmem, ⟨8, _⟩ => ⟨S16x1x128, .f32⟩
  | .local _ .vmem, ⟨9, _⟩ => ⟨S16x1x128, .f32⟩
  | _, _ => ⟨S2x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2048x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x16384 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.FrameKernel.lean ====
/-
  The frame of the kernel as lowered: from any memory every execution terminates, the arguments end as they were and
  every semaphore counter ends at zero. Nothing is said of what the outputs hold.
-/
module

public import proofs.«01_k».proof.Proof.Gen.Kernel.Loops
public import proofs.«01_k».proof.Proof.Gen.Kernel.Frame
public import Idealize.ShloMosaic.Lib.Exec
public import Idealize.ShloMosaic.Lib.Tactic
public import Idealize.ShloMosaic.Lib.Pipeline.TableIdle

@[expose] public section

set_option maxRecDepth 16384
set_option maxHeartbeats 1000000

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

section Body

variable (𝒱 : Variants) (c : Dev nD) (bd : Option 𝒱.V) (E : Set ℕ)
variable (i : grid0.Coords)
  (arg1 : Memref sig .tc .vmem S1x16 .f32) (harg1 : arg1.IsWhole)
  (arg2 : Memref sig .tc .vmem S1x16384 .f32) (harg2 : arg2.IsWhole)
  (arg3 : Memref sig .tc .vmem S1x16384 .f32) (harg3 : arg3.IsWhole)
  (arg4 : Memref sig .tc .vmem S128x16384 .bf16) (harg4 : arg4.IsWhole)
  (arg5 : Memref sig .tc .vmem S128x16384 .fp8e4m3) (harg5 : arg5.IsWhole)
  (arg6 : Memref sig .tc .vmem S16384x128 .fp8e4m3) (harg6 : arg6.IsWhole)
  (arg7 : Memref sig .tc .vmem S1x1 .f32) (harg7 : arg7.IsWhole)
  (arg8 : Memref sig .tc .vmem S1x1 .f32) (harg8 : arg8.IsWhole)
  (arg9 : Memref sig .tc .vmem S1x1x128 .f32) (harg9 : arg9.IsWhole)
  (arg10 : Memref sig .tc .vmem S1x1x128 .f32) (harg10 : arg10.IsWhole)
  (arg11 : Memref sig .tc .vmem S128x128 .f32) (harg11 : arg11.IsWhole)
  (arg12 : Memref sig .tc .vmem S128x128 .f32) (harg12 : arg12.IsWhole)
  (arg13 : Memref sig .tc .vmem S8x128 .f32) (harg13 : arg13.IsWhole)
  (arg14 : Memref sig .tc .vmem S8x256 .bf16) (harg14 : arg14.IsWhole)

/-- A memref held whole, at some contents. -/
abbrev any_ {s : Shape} {e : EltTy} (c : Dev nD) (m : Memref sig .tc .vmem s e) : sProp 𝕄 :=
  iprop(∃ f, m.view.loc (c : Thread nD τ) ↦[m.view.set]{fullShare} f)

/-- The body at any grid point: it runs, and leaves its inputs as it found them. -/
theorem body_any (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))
      ⊢ wp frame (wpE (defs₀ (F := F)) 𝒱 (c : Thread nD τ) bd) E (cc0_ln_fp8_cast_transpose (F := F) i arg1 harg1 arg2 harg2 arg3 harg3 arg4 harg4 arg5 harg5 arg6 harg6 arg7 harg7 arg8 harg8 arg9 harg9 arg10 harg10 arg11 harg11 arg12 harg12 arg13 harg13 arg14 harg14)
          (fun _ => iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ any_ c arg5 ∗ any_ c arg6 ∗ any_ c arg7 ∗ any_ c arg8 ∗ any_ c arg9 ∗ any_ c arg10 ∗ any_ c arg11 ∗ any_ c arg12 ∗ any_ c arg13 ∗ any_ c arg14)) := by
  iintro ⟨H1, H2, H3, H4, H5, H6, H7, H8, H9, H10, H11, H12, H13, H14⟩
  unfold cc0_ln_fp8_cast_transpose
  by_cases h1 : k0_cond1 i = 1#1
  all_goals by_cases h3 : k0_cond3 i = 1#1
  all_goals sl_exec
  all_goals split
  all_goals sl_exec
  all_goals sl_step
  all_goals iframe H1 H2 H3 H4
  all_goals (isplitl [H5]; · iexists _; iexact H5)
  all_goals (isplitl [H6]; · iexists _; iexact H6)
  all_goals (isplitl [H7]; · iexists _; iexact H7)
  all_goals (isplitl [H8]; · iexists _; iexact H8)
  all_goals (isplitl [H9]; · iexists _; iexact H9)
  all_goals (isplitl [H10]; · iexists _; iexact H10)
  all_goals (isplitl [H11]; · iexists _; iexact H11)
  all_goals (isplitl [H12]; · iexists _; iexact H12)
  all_goals (isplitl [H13]; · iexists _; iexact H13)
  all_goals (iexists _; iexact H14)

end Body

section Run

variable (m : (ℓ : Loc nD τ sig) → Buf (Elt F) ℓ) (ρ : Dev nD → PrngReg)

/-- What each grid point may leave in each window: the inputs as found, the outputs at anything. -/
def rdat (c : Dev nD) : RDat τ (Elt F) Unit ℕ (UR sig nD τ) ℕ cfg0 c where
  A w := V m c (Pipeline.arrRef spec0 w)
  after w t Y X := (cfg0.win w).isOut = false → X = Y
  Φ _ := Pipeline.ΦA spec0 c
  q _ := fullShare
  owed _ := 0

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- A memref held at some contents is owned at what they read. -/
theorem owns_of_any {s : Shape} {e : EltTy} (c : Dev nD) (M : Memref sig .tc .vmem s e) :
    any_ c M ⊢ (iprop(∃ X, owns (c : Thread nD τ) M fullShare X) : sProp 𝕄) := by
  unfold owns
  iintro ⟨%f, H⟩
  iexists _
  iexists f
  isplitr; · ipureintro; rfl
  iexact H

/-- One grid point. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9))
      ⊢ wp frame (wpE (defs₀ (F := F)) Variants.none (c : Thread nD τ) none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X) ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X) ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X) ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X) ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X))) := by
  rw [show (rdat m c).Φ t.castSucc = Pipeline.ΦA spec0 c from rfl, show (rdat m c).Φ t.succ = Pipeline.ΦA spec0 c from rfl,
    show (rdat m c).owesAt () t.succ = (rdat m c).owesAt () t.castSucc from rfl]
  unfold Pipeline.ΦA
  rw [scopedRest0_eq]
  simp only [← owns_whole]
  iintro ⟨⟨⟨⟨%d0, S0⟩, ⟨%d1, S1⟩, ⟨%d2, S2⟩, ⟨%d3, S3⟩⟩, HR⟩, Ho, H0, H1, H2, H3, H4, H5, H6, H7, H8, H9⟩
  simp only [owns_eq_rep]
  ihave Hw := (body_any Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9))
      (Memref.whole cc0_scratch0) (Memref.isWhole_whole _) (Memref.whole cc0_scratch1) (Memref.isWhole_whole _) (Memref.whole cc0_scratch2) (Memref.isWhole_whole _) (Memref.whole cc0_scratch3) (Memref.isWhole_whole _) _ _ _ _ _ _ _ _ _ _ _ _ _ _) $$ [S0 S1 S2 S3 H0 H1 H2 H3 H4 H5 H6 H7 H8 H9]
  · iframe H0 H1 H2 H3 H4 H5 H6 H7 H8 H9 S0 S1 S2 S3
  iapply (Idealize.SL.Sem.wp_wand) $$ Hw
  iintro %_ ⟨H0, H1, H2, H3, H4, H5, H6, H7, H8, H9, S0, S1, S2, S3⟩
  ihave H4 := (owns_of_any c (st0_4 t)) $$ H4
  ihave H5 := (owns_of_any c (st0_5 t)) $$ H5
  ihave H6 := (owns_of_any c (st0_6 t)) $$ H6
  ihave H7 := (owns_of_any c (st0_7 t)) $$ H7
  ihave H8 := (owns_of_any c (st0_8 t)) $$ H8
  ihave H9 := (owns_of_any c (st0_9 t)) $$ H9
  ihave S0 := (owns_of_any c (Memref.whole cc0_scratch0)) $$ S0
  ihave S1 := (owns_of_any c (Memref.whole cc0_scratch1)) $$ S1
  ihave S2 := (owns_of_any c (Memref.whole cc0_scratch2)) $$ S2
  ihave S3 := (owns_of_any c (Memref.whole cc0_scratch3)) $$ S3
  simp only [owns_eq_rep]
  isplitl [S0 S1 S2 S3 HR]
  · isplitl [S0 S1 S2 S3]
    · isplitl [S0]; · iexact S0
      isplitl [S1]; · iexact S1
      isplitl [S2]; · iexact S2
      iexact S3
    iexact HR
  iframe Ho
  isplitl [H0]; · iexists _; isplitr; · ipureintro; intro _; rfl
                  iexact H0
  isplitl [H1]; · iexists _; isplitr; · ipureintro; intro _; rfl
                  iexact H1
  isplitl [H2]; · iexists _; isplitr; · ipureintro; intro _; rfl
                  iexact H2
  isplitl [H3]; · iexists _; isplitr; · ipureintro; intro _; rfl
                  iexact H3
  icases H4 with ⟨%X4, H4⟩
  isplitl [H4]; · iexists X4; isplitr; · ipureintro; intro h; exact absurd h (by decide)
                  iexact H4
  icases H5 with ⟨%X5, H5⟩
  isplitl [H5]; · iexists X5; isplitr; · ipureintro; intro h; exact absurd h (by decide)
                  iexact H5
  icases H6 with ⟨%X6, H6⟩
  isplitl [H6]; · iexists X6; isplitr; · ipureintro; intro h; exact absurd h (by decide)
                  iexact H6
  icases H7 with ⟨%X7, H7⟩
  isplitl [H7]; · iexists X7; isplitr; · ipureintro; intro h; exact absurd h (by decide)
                  iexact H7
  icases H8 with ⟨%X8, H8⟩
  isplitl [H8]; · iexists X8; isplitr; · ipureintro; intro h; exact absurd h (by decide)
                  iexact H8
  icases H9 with ⟨%X9, H9⟩
  iexists X9; isplitr; · ipureintro; intro h; exact absurd h (by decide)
  iexact H9

/-- Every grid point leaves what it may. -/
theorem body_obligation (c : Dev nD) : (rdat (F := F) m c).BodyObligation (defs₀ (F := F)) Variants.none () Set.univ := fun t Y hY => by
  rw [bigSep_W0, bigSep_W0, defs₀_row]
  exact triple_restated (sound_body m c t Y) rfl .rfl fun _ => .rfl

set_option backward.isDefEq.respectTransparency.types false in
/-- The launch: every weakly fair execution terminates, every buffer that is no window's array is as it was found, every semaphore counter is at zero. -/
theorem run : θ_run defs (onTc (τ := τ) (main (F := F))) (s₀ m ρ) (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => (rdat m c).share_full (fun _ => rfl) w)
    (howed := fun _ _ => rfl) (V := V m) (hmain := hmain m Variants.none) (hA := fun _ _ => rfl)
    (hΦ := fun _ _ => rfl) (hQ' := fun _ h => h)

/-- The arguments end as they were, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run m ρ)

end Run

end Cert.Kernel.Run

end
-- ==== Proof.Blk.lean ====
/-
  Blocks of an array, total in the offsets: `blk X off size` is the window of `X` at `off` when it lies inside the
  array. A loop's invariant says what each block holds, with no bound carried in the statement.
-/
module

public import Idealize.ShloMosaic.Lib.VecWindow

@[expose] public section

noncomputable section

namespace Cert.Blk

open Idealize.ShloMosaic

variable {α : Type} {s : Shape}

/-- The block of `X` of sizes `size` at offsets `off`; an arbitrary constant when it does not fit. -/
def blk (hn : Nonempty α) (X : s.Idx → α) (off size : Fin s.rank → ℕ) : ((a : Fin s.rank) → Fin (size a)) → α :=
  open Classical in
  if h : ∀ a, off a + size a ≤ s.size a then VecWindow.window X off size h else fun _ => Classical.choice hn

/-- A block that fits is the window. -/
theorem blk_eq (hn : Nonempty α) (X : s.Idx → α) (off size : Fin s.rank → ℕ) (h : ∀ a, off a + size a ≤ s.size a) :
    blk hn X off size = VecWindow.window X off size h := dif_pos h

/-- A block that fits, at an index. -/
theorem blk_apply (hn : Nonempty α) (X : s.Idx → α) (off size : Fin s.rank → ℕ) (h : ∀ a, off a + size a ≤ s.size a)
    (y : (a : Fin s.rank) → Fin (size a)) :
    blk hn X off size y = X (fun a => ⟨off a + (y a).val, by have := h a; have := (y a).isLt; omega⟩) := by
  rw [blk_eq _ _ _ _ h]
  exact congrArg X (funext fun a => Fin.ext (by
    show off a + 1 * (y a).val = off a + (y a).val
    omega))

/-- The block just put is the payload. -/
theorem blk_put_same (hn : Nonempty α) (X : s.Idx → α) (off size : Fin s.rank → ℕ) (h : ∀ a, off a + size a ≤ s.size a)
    (w : ((a : Fin s.rank) → Fin (size a)) → α) : blk hn (VecWindow.put X off size w) off size = w := by
  rw [blk_eq _ _ _ _ h, VecWindow.window_put_same]

/-- A block apart from the one put is unchanged. -/
theorem blk_put_of_disjoint (hn : Nonempty α) (X : s.Idx → α) (off size off' size' : Fin s.rank → ℕ)
    (w : ((a : Fin s.rank) → Fin (size a)) → α) (a : Fin s.rank) (ha : off' a + size' a ≤ off a ∨ off a + size a ≤ off' a) :
    blk hn (VecWindow.put X off size w) off' size' = blk hn X off' size' := by
  by_cases h : ∀ a, off' a + size' a ≤ s.size a
  · rw [blk_eq _ _ _ _ h, blk_eq _ _ _ _ h, VecWindow.window_put_of_disjoint _ _ _ _ _ _ _ a ha]
  · unfold blk; rw [dif_neg h, dif_neg h]

variable {sig : RefSig} {κ : Kind} {sp : Space} {e : EltTy} {Val : EltTy → Type} [∀ e, Nonempty (Val e)]

/-- A load at a unit-stride rectangle reads a block of what the view reads. -/
theorem readAt_blk (v : View sig κ sp s e) (f : v.ty.Contents Val) {off off' size : Fin s.rank → ℕ}
    (inb : ∀ a, off a + size a ≤ s.size a) (h : off = off') (hn : Nonempty (Val e)) :
    v.readAt Val (Rect.unit off size inb).toLoadRect f = blk hn (v.read Val f) off' size := by
  subst h; rw [View.readAt_unit v f inb rfl inb, blk_eq _ _ _ _ inb]

/-- A load at a unit-stride rectangle of the representative of `X` reads a block of `X`. -/
theorem readAt_rep_blk (v : View sig κ sp s e) (X : s.Idx → Val e) {off off' size : Fin s.rank → ℕ}
    (inb : ∀ a, off a + size a ≤ s.size a) (h : off = off') (hn : Nonempty (Val e)) :
    v.readAt Val (Rect.unit off size inb).toLoadRect (v.rep X) = blk hn X off' size := by
  rw [readAt_blk v _ inb h hn, View.read_rep]

end Cert.Blk

end
-- ==== Proof.SpecIdeal.lean ====
/-
  What the kernel's body computes, as functions of the blocks it is given: the row sums, the mean and the reciprocal
  deviation of 128 rows, the scale, the codes chunk by chunk, the running maxima. Generic in the float operations.
-/
module

public import proofs.«01_k».proof.Proof.Blk
public import proofs.«01_k».proof.Proof.Gen.KernelIdeal.Skeleton

@[expose] public section

noncomputable section

namespace Cert.KernelIdeal.Spec

open Idealize.ShloMosaic Cert.KernelIdeal Cert.KernelIdeal.Gen Cert.Blk

variable {F : FTy → Type} [FloatOps F]

/-- Eight rows by 256 columns of the row block: row group `g`, column tile `j`. -/
def tile (X : Vec F S128x16384 .bf16) (g j : ℕ) : Vec F S8x256 .bf16 := blk (Elt.nonempty F _) X ![8 * g, 256 * j] S8x256.size

/-- The sum of the tiles `T` times ones, first to last, through tile `n`. -/
def sum1 (T : ℕ → Vec F S8x256 .bf16) : ℕ → FVec F S8x256 .f32
  | 0 => mulf (k0_pay3 (T 0)) (k0_pay2 k0_pay249)
  | n + 1 => addf (sum1 T n) (mulf (k0_pay3 (T (n + 1))) (k0_pay2 k0_pay249))

/-- The sum of the squares of the tiles `T`, first to last, through tile `n`. -/
def sum2 (T : ℕ → Vec F S8x256 .bf16) : ℕ → FVec F S8x256 .f32
  | 0 => mulf (k0_pay3 (T 0)) (k0_pay3 (T 0))
  | n + 1 => addf (sum2 T n) (mulf (k0_pay3 (T (n + 1))) (k0_pay3 (T (n + 1))))

/-- Tiles that agree have the same sum. -/
theorem sum1_congr {T T' : ℕ → Vec F S8x256 .bf16} : ∀ n, (∀ j ≤ n, T j = T' j) → sum1 T n = sum1 T' n
  | 0, h => by simp only [sum1, h 0 le_rfl]
  | n + 1, h => by simp only [sum1, h (n + 1) le_rfl, sum1_congr n fun j hj => h j (Nat.le_succ_of_le hj)]

/-- Tiles that agree have the same sum of squares. -/
theorem sum2_congr {T T' : ℕ → Vec F S8x256 .bf16} : ∀ n, (∀ j ≤ n, T j = T' j) → sum2 T n = sum2 T' n
  | 0, h => by simp only [sum2, h 0 le_rfl]
  | n + 1, h => by simp only [sum2, h (n + 1) le_rfl, sum2_congr n fun j hj => h j (Nat.le_succ_of_le hj)]

/-- The 128 partial row sums of row group `g`. -/
def s1g (X : Vec F S128x16384 .bf16) (g : ℕ) : FVec F S8x128 .f32 := k0_pay254 (sum1 (tile X g) 63)
/-- The 128 partial sums of squares of row group `g`. -/
def s2g (X : Vec F S128x16384 .bf16) (g : ℕ) : FVec F S8x128 .f32 := k0_pay255 (sum2 (tile X g) 63)

/-- The row groups stacked: row `r` is row `r % 8` of group `r / 8`. -/
def stack (p : ℕ → FVec F S8x128 .f32) : FVec F S128x128 .f32 :=
  fun y => p ((y 0).val / 8) (fun | ⟨0, _⟩ => ⟨(y 0).val % 8, Nat.mod_lt _ (by decide)⟩ | ⟨1, _⟩ => y 1)

/-- An array whose sixteen row groups are those of `p` is their stack. -/
theorem eq_stack (Z : FVec F S128x128 .f32) (p : ℕ → FVec F S8x128 .f32)
    (h : ∀ g < 16, blk (Elt.nonempty F .f32) Z ![8 * g, 0] S8x128.size = p g) : Z = stack p := by
  funext y
  have hy : (y 0).val < 128 := (y 0).isLt
  have hg := h ((y 0).val / 8) (by omega)
  unfold stack
  rw [← hg, blk_apply _ _ _ _ (fun a => by
    match a with
    | ⟨0, _⟩ => show 8 * ((y 0).val / 8) + 8 ≤ 128; omega
    | ⟨1, _⟩ => show 0 + 128 ≤ 128; omega)]
  refine congrArg Z (funext fun a => ?_)
  match a with
  | ⟨0, _⟩ => exact Fin.ext (by show (y 0).val = 8 * ((y 0).val / 8) + (y 0).val % 8; omega)
  | ⟨1, _⟩ => exact Fin.ext (by show (y 1).val = 0 + (y 1).val; omega)

/-- The partial row sums. -/
def s1 (X : Vec F S128x16384 .bf16) : FVec F S128x128 .f32 := stack (s1g X)
/-- The partial sums of squares. -/
def s2 (X : Vec F S128x16384 .bf16) : FVec F S128x128 .f32 := stack (s2g X)
/-- The means, along the lanes. -/
def mus (X : Vec F S128x16384 .bf16) : FVec F S128x128 .f32 := k0_pay260 (s1 X)
/-- Whether the difference of the two moments is unsafe in some row. -/
def canc (X : Vec F S128x16384 .bf16) : BitVec 1 :=
  Scalar.cmpi .ne
    (Scalar.extui (Scalar.cmpi .sgt (extractAt ![0, 0, 0] (k0_pay259 (s1 X) (s2 X)) inpos_S1x1x1_p0_0_0) 0#32) : BitVec 32) 0#32
/-- Columns `128 j` to `128 j + 127` of the row block. -/
def chunk (X : Vec F S128x16384 .bf16) (j : ℕ) : Vec F S128x128 .bf16 := blk (Elt.nonempty F _) X ![0, 128 * j] S128x128.size
/-- Columns `128 j` to `128 j + 127` of a row of weights. -/
def lane (G : Vec F S1x16384 .f32) (j : ℕ) : Vec F S1x128 .f32 := blk (Elt.nonempty F _) G ![0, 128 * j] S1x128.size
/-- The centred squares of the first `n` chunks, summed first to last. -/
def cen (X : Vec F S128x16384 .bf16) : ℕ → FVec F S128x128 .f32
  | 0 => k0_pay262
  | n + 1 => k0_pay263 (cen X n) (chunk X n) (mus X)
/-- The reciprocal deviations, along the lanes. -/
def rss (X : Vec F S128x16384 .bf16) : FVec F S128x128 .f32 :=
  if canc X = 1#1 then k0_pay264 (cen X 128) else k0_pay261 (k0_pay258 (s1 X) (s2 X))
/-- The factor the codes are multiplied by. -/
def inv (H : Vec F S1x16 .f32) : FVec F S1x1 .f32 := k0_pay253 (k0_pay250 H) (k0_pay251 H) k0_pay252
/-- The normalised chunk `j`. -/
def ychunk (X : Vec F S128x16384 .bf16) (G B : Vec F S1x16384 .f32) (j : ℕ) : FVec F S128x128 .f32 :=
  k0_pay271 (chunk X j) (mus X) (rss X) (lane G j) (lane B j)
/-- The codes of chunk `j`. -/
def code (H : Vec F S1x16 .f32) (X : Vec F S128x16384 .bf16) (G B : Vec F S1x16384 .f32) (j : ℕ) : FVec F S128x128 .fp8e4m3 :=
  k0_pay273 (inv H) (ychunk X G B j)
/-- The running maxima after one more chunk. -/
def amaxStep (M : FVec F S8x128 .f32) (y : FVec F S128x128 .f32) : FVec F S8x128 .f32 :=
  maximumf M (multiReduction .maximumf [0] S8x128 (shapeCast S16x8x128 (absf y) shapeCasts_S128x128_S16x8x128) 0xFF800000#32 reduces_S16x8x128_S8x128 (.inl rfl) rfl)
/-- The running maxima after the first `n` chunks, from `M`. -/
def amaxAcc (X : Vec F S128x16384 .bf16) (G B : Vec F S1x16384 .f32) (M : FVec F S8x128 .f32) : ℕ → FVec F S8x128 .f32
  | 0 => M
  | n + 1 => amaxStep (amaxAcc X G B M n) (ychunk X G B n)
/-- The transposed codes of chunk `j`. -/
def codeT (H : Vec F S1x16 .f32) (X : Vec F S128x16384 .bf16) (G B : Vec F S1x16384 .f32) (j : ℕ) : FVec F S128x128 .fp8e4m3 :=
  k0_pay282 (code H X G B j)

end Cert.KernelIdeal.Spec

end
-- ==== Proof.TripsIdeal.lean ====
module

public import proofs.«01_k».proof.Proof.SpecIdeal
public import Idealize.ShloMosaic.Lib.Exec
public import Idealize.ShloMosaic.Lib.Tactic

@[expose] public section

set_option maxRecDepth 16384
set_option maxHeartbeats 1000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Spec Cert.Blk

variable {F : FTy → Type} [FloatOps F]

local notation "𝕄" => MT nD τ sig Unit (Elt F) ℕ (UR sig nD τ) ℕ

variable (𝒱 : Variants) (c : Dev nD) (bd : Option 𝒱.V) (E : Set ℕ)
variable (i : grid0.Coords)
  (arg1 : Memref sig .tc .vmem S1x16 .f32) (harg1 : arg1.IsWhole)
  (arg2 : Memref sig .tc .vmem S1x16384 .f32) (harg2 : arg2.IsWhole)
  (arg3 : Memref sig .tc .vmem S1x16384 .f32) (harg3 : arg3.IsWhole)
  (arg4 : Memref sig .tc .vmem S128x16384 .bf16) (harg4 : arg4.IsWhole)
  (arg5 : Memref sig .tc .vmem S128x16384 .fp8e4m3) (harg5 : arg5.IsWhole)
  (arg6 : Memref sig .tc .vmem S16384x128 .fp8e4m3) (harg6 : arg6.IsWhole)
  (arg7 : Memref sig .tc .vmem S1x1 .f32) (harg7 : arg7.IsWhole)
  (arg8 : Memref sig .tc .vmem S1x1 .f32) (harg8 : arg8.IsWhole)
  (arg9 : Memref sig .tc .vmem S1x1x128 .f32) (harg9 : arg9.IsWhole)
  (arg10 : Memref sig .tc .vmem S1x1x128 .f32) (harg10 : arg10.IsWhole)
  (arg11 : Memref sig .tc .vmem S128x128 .f32) (harg11 : arg11.IsWhole)
  (arg12 : Memref sig .tc .vmem S128x128 .f32) (harg12 : arg12.IsWhole)
  (arg13 : Memref sig .tc .vmem S8x128 .f32) (harg13 : arg13.IsWhole)
  (arg14 : Memref sig .tc .vmem S8x256 .bf16) (harg14 : arg14.IsWhole)
variable (H : Vec F S1x16 .f32) (G B : Vec F S1x16384 .f32) (X : Vec F S128x16384 .bf16)

/-- A memref held whole at the contents that read `Z`. -/
abbrev at_ {s : Shape} {e : EltTy} (c : Dev nD) (m : Memref sig .tc .vmem s e) (Z : s.Idx → Elt F e) : sProp 𝕄 :=
  iprop(m.view.loc (c : Thread nD τ) ↦[m.view.set]{fullShare} m.view.rep Z)

/-- A memref held whole at contents of which `P` holds, as read. -/
abbrev some_ {s : Shape} {e : EltTy} (c : Dev nD) (m : Memref sig .tc .vmem s e) (P : (s.Idx → Elt F e) → Prop) : sProp 𝕄 :=
  iprop(∃ f, (m.view.loc (c : Thread nD τ) ↦[m.view.set]{fullShare} f) ∗ ⌜P (m.view.read (Elt F) f)⌝)

/-- Chunks `0 … n-1` of the code array hold their codes. -/
def Codes (n : ℕ) (Z : S128x16384.Idx → Elt F .fp8e4m3) : Prop :=
  ∀ j < n, blk (Elt.nonempty F _) Z ![0, 128 * j] S128x128.size = code H X G B j

/-- Row blocks `0 … n-1` of the transposed array hold the transposed codes. -/
def CodesT (n : ℕ) (Z : S16384x128.Idx → Elt F .fp8e4m3) : Prop :=
  ∀ j < n, blk (Elt.nonempty F _) Z ![128 * j, 0] S128x128.size = codeT H X G B j

variable {H G B X} in
/-- One more chunk of codes stored. -/
theorem Codes.write {n n' : ℕ} (hn : n < 128) (hn' : n' = n + 1) (m : Memref sig .tc .vmem S128x16384 .fp8e4m3) (f : m.view.ty.Contents (Elt F)) {off : Fin 2 → ℕ}
    (inb : ∀ a, off a + S128x128.size a ≤ S128x16384.size a) (w : S128x128.Idx → Elt F .fp8e4m3) (L)
    (h : Codes H G B X n (m.view.read (Elt F) (m.view.writes (Elt F) f L))) (ho : off = ![0, 128 * n]) (hw : w = code H X G B n) :
    Codes H G B X n' (m.view.read (Elt F) (m.view.writes (Elt F) f (⟨Rect.unit off S128x128.size inb, w⟩ :: L))) := by
  subst hn' hw
  intro j hj
  rw [View.read_writes_cons_put m.view f inb _ L ho]
  rcases Nat.lt_succ_iff_lt_or_eq.mp hj with h' | rfl
  · rw [blk_put_of_disjoint _ _ _ _ _ _ _ 1 (Or.inl (by show 128 * j + 128 ≤ 128 * n; omega))]
    exact h j h'
  · exact blk_put_same _ _ _ _ (fun a => by match a with | ⟨0, _⟩ => show 0 + 128 ≤ 128; omega | ⟨1, _⟩ => show 128 * j + 128 ≤ 16384; omega) _

variable {H G B X} in
/-- One more block of transposed codes stored. -/
theorem CodesT.write {n n' : ℕ} (hn : n < 128) (hn' : n' = n + 1) (m : Memref sig .tc .vmem S16384x128 .fp8e4m3) (f : m.view.ty.Contents (Elt F)) {off : Fin 2 → ℕ}
    (inb : ∀ a, off a + S128x128.size a ≤ S16384x128.size a) (w : S128x128.Idx → Elt F .fp8e4m3) (L)
    (h : CodesT H G B X n (m.view.read (Elt F) (m.view.writes (Elt F) f L))) (ho : off = ![128 * n, 0]) (hw : w = codeT H X G B n) :
    CodesT H G B X n' (m.view.read (Elt F) (m.view.writes (Elt F) f (⟨Rect.unit off S128x128.size inb, w⟩ :: L))) := by
  subst hn' hw
  intro j hj
  rw [View.read_writes_cons_put m.view f inb _ L ho]
  rcases Nat.lt_succ_iff_lt_or_eq.mp hj with h' | rfl
  · rw [blk_put_of_disjoint _ _ _ _ _ _ _ 0 (Or.inl (by show 128 * j + 128 ≤ 128 * n; omega))]
    exact h j h'
  · exact blk_put_same _ _ _ _ (fun a => by match a with | ⟨0, _⟩ => show 128 * j + 128 ≤ 16384; omega | ⟨1, _⟩ => show 0 + 128 ≤ 128; omega) _

variable {H G B X} in
/-- A chunk of codes loaded back, transposed. -/
theorem Codes.transposed {n : ℕ} (m : Memref sig .tc .vmem S128x16384 .fp8e4m3) (f : m.view.ty.Contents (Elt F)) (h : Codes H G B X n (m.view.read (Elt F) f))
    {off : Fin 2 → ℕ} (inb : ∀ a, off a + S128x128.size a ≤ S128x16384.size a) (j : ℕ) (hj : j < n) (ho : off = ![0, 128 * j]) :
    k0_pay282 (m.view.readAt (Elt F) (Rect.unit (s := S128x16384) off S128x128.size inb).toLoadRect f) = codeT H X G B j := by
  rw [readAt_blk m.view f inb ho (Elt.nonempty F _), h j hj]; rfl

/-- A chunk of the row block, loaded. -/
theorem read_chunk (m : Memref sig .tc .vmem S128x16384 .bf16) {off : Fin 2 → ℕ} (inb : ∀ a, off a + S128x128.size a ≤ S128x16384.size a) (j : ℕ) (ho : off = ![0, 128 * j]) :
    m.view.readAt (Elt F) (Rect.unit (s := S128x16384) off S128x128.size inb).toLoadRect (m.view.rep X) = chunk X j :=
  readAt_rep_blk m.view X inb ho (Elt.nonempty F _)

/-- A chunk of a row of weights, loaded. -/
theorem read_lane (m : Memref sig .tc .vmem S1x16384 .f32) {off : Fin 2 → ℕ} (inb : ∀ a, off a + S1x128.size a ≤ S1x16384.size a) (j : ℕ) (ho : off = ![0, 128 * j]) :
    m.view.readAt (Elt F) (Rect.unit (s := S1x16384) off S1x128.size inb).toLoadRect (m.view.rep G) = lane G j :=
  readAt_rep_blk m.view G inb ho (Elt.nonempty F _)

/-- Two offset pairs are equal when their entries are. -/
theorem off_eq {o : Fin 2 → ℕ} {a b a' b' : ℕ} (h : o = ![a, b]) (ha : a = a') (hb : b = b') : o = ![a', b'] := by
  rw [h, ha, hb]

/-- Before trip `k` of the pipelined loop. -/
def inv3 (M : FVec F S8x128 .f32) (k : ℕ) (acc : FVec F S8x128 .f32) : sProp 𝕄 :=
  iprop(at_ c arg2 G ∗ at_ c arg3 B ∗ at_ c arg4 X ∗ at_ c arg11 (mus X) ∗ at_ c arg12 (rss X)
    ∗ some_ c arg5 (Codes H G B X (4 * k + 4)) ∗ some_ c arg6 (CodesT H G B X (4 * k))
    ∗ ⌜acc = amaxAcc X G B M (4 * k + 4)⌝)

/-- One trip of the pipelined loop: the last four chunks transposed, the next four normalised and coded. -/
theorem trip3 (M : FVec F S8x128 .f32) (v164 : BitVec 32) (v186 : FVec F S8x128 .f32) (v193 : FVec F S128x128 .fp8e4m3) (k : Fin k0_t3_loop.trips) (acc : FVec F S8x128 .f32) :
    inv3 c arg2 arg3 arg4 arg5 arg6 arg11 arg12 H G B X M k acc
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 (inv H) v164 v186 v193 k acc)
          (inv3 c arg2 arg3 arg4 arg5 arg6 arg11 arg12 H G B X M (k + 1)) := by
  have hk : k.val < 31 := Nat.lt_of_lt_of_le k.isLt k0_t3_abs.2.1
  have e0 : k0_off71 k 0#32 = ![0, 128 * (4 * k.val + 4)] := off_eq (k0_off71_eq k 0) rfl (by show 512 * k.val + 128 * 0 + 512 = _; omega)
  have e1 : k0_off71 k 128#32 = ![0, 128 * (4 * k.val + 5)] := off_eq (k0_off71_eq k 1) rfl (by show 512 * k.val + 128 * 1 + 512 = _; omega)
  have e2 : k0_off71 k 256#32 = ![0, 128 * (4 * k.val + 6)] := off_eq (k0_off71_eq k 2) rfl (by show 512 * k.val + 128 * 2 + 512 = _; omega)
  have e3 : k0_off71 k 384#32 = ![0, 128 * (4 * k.val + 7)] := off_eq (k0_off71_eq k 3) rfl (by show 512 * k.val + 128 * 3 + 512 = _; omega)
  have l0 : k0_off72 k 0#32 = ![0, 128 * (4 * k.val + 4)] := off_eq (k0_off72_eq k 0) rfl (by show 512 * k.val + 128 * 0 + 512 = _; omega)
  have l1 : k0_off72 k 128#32 = ![0, 128 * (4 * k.val + 5)] := off_eq (k0_off72_eq k 1) rfl (by show 512 * k.val + 128 * 1 + 512 = _; omega)
  have l2 : k0_off72 k 256#32 = ![0, 128 * (4 * k.val + 6)] := off_eq (k0_off72_eq k 2) rfl (by show 512 * k.val + 128 * 2 + 512 = _; omega)
  have l3 : k0_off72 k 384#32 = ![0, 128 * (4 * k.val + 7)] := off_eq (k0_off72_eq k 3) rfl (by show 512 * k.val + 128 * 3 + 512 = _; omega)
  have r0 : k0_off69 k 0#32 = ![0, 128 * (4 * k.val)] := off_eq (k0_off69_eq k 0) rfl (by show 512 * k.val + 128 * 0 = _; omega)
  have r1 : k0_off69 k 128#32 = ![0, 128 * (4 * k.val + 1)] := off_eq (k0_off69_eq k 1) rfl (by show 512 * k.val + 128 * 1 = _; omega)
  have r2 : k0_off69 k 256#32 = ![0, 128 * (4 * k.val + 2)] := off_eq (k0_off69_eq k 2) rfl (by show 512 * k.val + 128 * 2 = _; omega)
  have r3 : k0_off69 k 384#32 = ![0, 128 * (4 * k.val + 3)] := off_eq (k0_off69_eq k 3) rfl (by show 512 * k.val + 128 * 3 = _; omega)
  have s0 : k0_off70 k 0#32 = ![128 * (4 * k.val), 0] := off_eq (k0_off70_eq k 0) (by show 512 * k.val + 128 * 0 = _; omega) rfl
  have s1 : k0_off70 k 128#32 = ![128 * (4 * k.val + 1), 0] := off_eq (k0_off70_eq k 1) (by show 512 * k.val + 128 * 1 = _; omega) rfl
  have s2 : k0_off70 k 256#32 = ![128 * (4 * k.val + 2), 0] := off_eq (k0_off70_eq k 2) (by show 512 * k.val + 128 * 2 = _; omega) rfl
  have s3 : k0_off70 k 384#32 = ![128 * (4 * k.val + 3), 0] := off_eq (k0_off70_eq k 3) (by show 512 * k.val + 128 * 3 = _; omega) rfl
  unfold k0_t3_body inv3
  iintro ⟨H2, H3, H4, H11, H12, ⟨%f5, H5, %h5⟩, ⟨%f6, H6, %h6⟩, %hacc⟩
  sl_exec
  sl_step
  sl_unfold_run_names
  subst hacc
  simp only [read_chunk X arg4 _ _ e0, read_chunk X arg4 _ _ e1, read_chunk X arg4 _ _ e2, read_chunk X arg4 _ _ e3,
    read_lane G arg2 _ _ l0, read_lane G arg2 _ _ l1, read_lane G arg2 _ _ l2, read_lane G arg2 _ _ l3,
    read_lane B arg3 _ _ l0, read_lane B arg3 _ _ l1, read_lane B arg3 _ _ l2, read_lane B arg3 _ _ l3,
    View.readAt_rep_full (s := S128x128)]
  iframe H2 H3 H4 H11 H12
  isplitl [H5]
  · iexists _; isplitl [H5]; · iexact H5
    ipureintro
    refine Codes.write (n := 4 * k.val + 7) (by omega) (by omega) _ _ _ _ _ ?_ e3 rfl
    refine Codes.write (n := 4 * k.val + 6) (by omega) (by omega) _ _ _ _ _ ?_ e2 rfl
    refine Codes.write (n := 4 * k.val + 5) (by omega) (by omega) _ _ _ _ _ ?_ e1 rfl
    exact Codes.write (n := 4 * k.val + 4) (by omega) (by omega) _ _ _ _ _ h5 e0 rfl
  isplitl [H6]
  · iexists _; isplitl [H6]; · iexact H6
    ipureintro
    refine CodesT.write (n := 4 * k.val + 3) (by omega) (by omega) _ _ _ _ _ ?_ s3 (Codes.transposed _ _ h5 _ _ (by omega) r3)
    refine CodesT.write (n := 4 * k.val + 2) (by omega) (by omega) _ _ _ _ _ ?_ s2 (Codes.transposed _ _ h5 _ _ (by omega) r2)
    refine CodesT.write (n := 4 * k.val + 1) (by omega) (by omega) _ _ _ _ _ ?_ s1 (Codes.transposed _ _ h5 _ _ (by omega) r1)
    exact CodesT.write (n := 4 * k.val) (by omega) (by omega) _ _ _ _ _ h6 s0 (Codes.transposed _ _ h5 _ _ (by omega) r0)
  ipureintro
  rfl

/-- Before trip `k` of the centred pass. -/
def inv2 (k : ℕ) (acc : FVec F S128x128 .f32) : sProp 𝕄 :=
  iprop(at_ c arg4 X ∗ at_ c arg11 (mus X) ∗ ⌜acc = cen X k⌝)

/-- One trip of the centred pass: one more chunk's centred squares. -/
theorem trip2 (v59 : FVec F S128x1 .f32) (v70 : BitVec 1) (v75 : FVec F S128x128 .f32) (k : Fin k0_t2_loop.trips) (acc : FVec F S128x128 .f32) :
    inv2 c arg4 arg11 X k acc
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 v59 v70 v75 k acc)
          (inv2 c arg4 arg11 X (k + 1)) := by
  unfold k0_t2_body inv2
  iintro ⟨H4, H11, %hacc⟩
  sl_exec
  sl_step
  sl_unfold_run_names
  subst hacc
  simp only [read_chunk X arg4 _ _ (k0_off66_eq k), View.readAt_rep_full (s := S128x128)]
  iframe H4 H11
  ipureintro
  rfl

/-- Row groups `0 … n-1` of a sum buffer hold `p`. -/
def Rows (p : ℕ → FVec F S8x128 .f32) (n : ℕ) (Z : S128x128.Idx → Elt F .f32) : Prop :=
  ∀ j < n, blk (Elt.nonempty F .f32) Z ![8 * j, 0] S8x128.size = p j

/-- One more row group stored. -/
theorem Rows.write {p : ℕ → FVec F S8x128 .f32} {n n' : ℕ} (hn : n < 16) (hn' : n' = n + 1) (m : Memref sig .tc .vmem S128x128 .f32) (f : m.view.ty.Contents (Elt F)) {off : Fin 2 → ℕ}
    (inb : ∀ a, off a + S8x128.size a ≤ S128x128.size a) (w : S8x128.Idx → Elt F .f32) (L)
    (h : Rows p n (m.view.read (Elt F) (m.view.writes (Elt F) f L))) (ho : off = ![8 * n, 0]) (hw : w = p n) :
    Rows p n' (m.view.read (Elt F) (m.view.writes (Elt F) f (⟨Rect.unit off S8x128.size inb, w⟩ :: L))) := by
  subst hn' hw
  intro j hj
  rw [View.read_writes_cons_put m.view f inb _ L ho]
  rcases Nat.lt_succ_iff_lt_or_eq.mp hj with h' | rfl
  · rw [blk_put_of_disjoint _ _ _ _ _ _ _ 0 (Or.inl (by show 8 * j + 8 ≤ 8 * n; omega))]
    exact h j h'
  · exact blk_put_same _ _ _ _ (fun a => by match a with | ⟨0, _⟩ => show 8 * j + 8 ≤ 128; omega | ⟨1, _⟩ => show 0 + 128 ≤ 128; omega) _

/-- Before trip `k` of the pass over the row groups. -/
def inv1 (k : ℕ) (_ : Unit) : sProp 𝕄 :=
  iprop(at_ c arg4 X ∗ at_ c arg14 k0_pay249 ∗ some_ c arg11 (Rows (s1g X) (2 * k)) ∗ some_ c arg12 (Rows (s2g X) (2 * k)))

/-- Eight rows from row `r` on, by 256 columns, fit in the row block. -/
theorem tile_inb {r : ℕ} (hr : r + 8 ≤ 128) (j : ℕ) : ∀ a, ![r, 256 * (j % 64)] a + S8x256.size a ≤ S128x16384.size a := fun a => by
  have := Nat.mod_lt j (by decide : 0 < 64)
  match a with
  | ⟨0, _⟩ => exact hr
  | ⟨1, _⟩ => show 256 * (j % 64) + 256 ≤ 16384; omega

/-- Tile `j` of the eight rows from row `r` on, as loaded. -/
def loaded (m : Memref sig .tc .vmem S128x16384 .bf16) (r : ℕ) (hr : r + 8 ≤ 128) (j : ℕ) : Vec F S8x256 .bf16 :=
  m.view.readAt (Elt F) (Rect.unit (s := S128x16384) ![r, 256 * (j % 64)] S8x256.size (tile_inb hr j)).toLoadRect (m.view.rep X)

/-- The tiles loaded are the row group's. -/
theorem loaded_eq (m : Memref sig .tc .vmem S128x16384 .bf16) (r g : ℕ) (hr : r + 8 ≤ 128) (hg : r = 8 * g) (j : ℕ) (hj : j ≤ 63) :
    loaded X m r hr j = tile X g j :=
  readAt_rep_blk m.view X _ (by rw [hg, Nat.mod_eq_of_lt (by omega)]) (Elt.nonempty F _)

/-- The partial sums of tiles loaded are the row group's. -/
theorem loaded_s1g (m : Memref sig .tc .vmem S128x16384 .bf16) (r g : ℕ) (hr : r + 8 ≤ 128) (hg : r = 8 * g) :
    k0_pay254 (sum1 (loaded X m r hr) 63) = s1g X g := by
  unfold s1g; rw [sum1_congr 63 (loaded_eq X m r g hr hg)]

/-- The partial sums of squares of tiles loaded are the row group's. -/
theorem loaded_s2g (m : Memref sig .tc .vmem S128x16384 .bf16) (r g : ℕ) (hr : r + 8 ≤ 128) (hg : r = 8 * g) :
    k0_pay255 (sum2 (loaded X m r hr) 63) = s2g X g := by
  unfold s2g; rw [sum2_congr 63 (loaded_eq X m r g hr hg)]

/-- One trip of the pass over the row groups: two more groups' sums. -/
theorem trip1 (v6 : FVec F S1x1 .f32) (v37 : IVec S1x1 32) (v38 : FVec F S1x1 .f32) (k : Fin k0_t1_loop.trips) :
    inv1 c arg4 arg11 arg12 arg14 X k ()
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 v6 v37 v38 k ())
          (inv1 c arg4 arg11 arg12 arg14 X (k + 1)) := by
  have hk : k.val < 8 := Nat.lt_of_lt_of_le k.isLt k0_t1_abs.2.1
  have g0 : k0_off65 k 0#32 = ![8 * (2 * k.val), 0] := off_eq (k0_off65_eq k 0) (by show 16 * k.val + 8 * 0 = _; omega) rfl
  have g1 : k0_off65 k 8#32 = ![8 * (2 * k.val + 1), 0] := off_eq (k0_off65_eq k 1) (by show 16 * k.val + 8 * 1 = _; omega) rfl
  have r0 : BitVec.toNat (Scalar.indexCast (Scalar.addi (Scalar.muli (Scf.iv 0#32 1#32 k.val) 16#32) 0#32)) = 8 * (2 * k.val) := congrFun g0 0
  have r1 : BitVec.toNat (Scalar.indexCast (Scalar.addi (Scalar.muli (Scf.iv 0#32 1#32 k.val) 16#32) 8#32)) = 8 * (2 * k.val + 1) := congrFun g1 0
  unfold k0_t1_body inv1
  iintro ⟨H4, H14, ⟨%f11, H11, %h11⟩, ⟨%f12, H12, %h12⟩⟩
  sl_exec
  sl_step
  isplitl [H4]; · iexact H4
  isplitl [H14]; · iexact H14
  isplitl [H11]
  · iexists _; isplitl [H11]; · iexact H11
    ipureintro
    refine Rows.write (n := 2 * k.val + 1) (by omega) (by omega) _ _ _ _ _ ?_ g1 ?_
    refine Rows.write (n := 2 * k.val) (by omega) (by omega) _ _ _ _ _ h11 g0 ?_
    · sl_unfold_run_names
      rw [View.readAt_rep_full (s := S8x256)]
      exact Eq.trans (by rfl) (loaded_s1g X arg4 _ _ (by omega) r0)
    · sl_unfold_run_names
      rw [View.readAt_rep_full (s := S8x256)]
      exact Eq.trans (by rfl) (loaded_s1g X arg4 _ _ (by omega) r1)
  · iexists _; isplitl [H12]; · iexact H12
    ipureintro
    refine Rows.write (n := 2 * k.val + 1) (by omega) (by omega) _ _ _ _ _ ?_ g1 ?_
    refine Rows.write (n := 2 * k.val) (by omega) (by omega) _ _ _ _ _ h12 g0 ?_
    · sl_unfold_run_names
      exact Eq.trans (by rfl) (loaded_s2g X arg4 _ _ (by omega) r0)
    · sl_unfold_run_names
      exact Eq.trans (by rfl) (loaded_s2g X arg4 _ _ (by omega) r1)

end Cert.KernelIdeal.Body

end
-- ==== Proof.BodyIdeal.lean ====
module

public import proofs.«01_k».proof.Proof.TripsIdeal
public import Idealize.ShloMosaic.Lib.Exec
public import Idealize.ShloMosaic.Lib.Tactic

@[expose] public section

set_option maxRecDepth 16384
set_option maxHeartbeats 1000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Spec Cert.Blk

variable {F : FTy → Type} [FloatOps F]

local notation "𝕄" => MT nD τ sig Unit (Elt F) ℕ (UR sig nD τ) ℕ

variable (𝒱 : Variants) (c : Dev nD) (bd : Option 𝒱.V) (E : Set ℕ)
variable (i : grid0.Coords)
  (arg1 : Memref sig .tc .vmem S1x16 .f32) (harg1 : arg1.IsWhole)
  (arg2 : Memref sig .tc .vmem S1x16384 .f32) (harg2 : arg2.IsWhole)
  (arg3 : Memref sig .tc .vmem S1x16384 .f32) (harg3 : arg3.IsWhole)
  (arg4 : Memref sig .tc .vmem S128x16384 .bf16) (harg4 : arg4.IsWhole)
  (arg5 : Memref sig .tc .vmem S128x16384 .fp8e4m3) (harg5 : arg5.IsWhole)
  (arg6 : Memref sig .tc .vmem S16384x128 .fp8e4m3) (harg6 : arg6.IsWhole)
  (arg7 : Memref sig .tc .vmem S1x1 .f32) (harg7 : arg7.IsWhole)
  (arg8 : Memref sig .tc .vmem S1x1 .f32) (harg8 : arg8.IsWhole)
  (arg9 : Memref sig .tc .vmem S1x1x128 .f32) (harg9 : arg9.IsWhole)
  (arg10 : Memref sig .tc .vmem S1x1x128 .f32) (harg10 : arg10.IsWhole)
  (arg11 : Memref sig .tc .vmem S128x128 .f32) (harg11 : arg11.IsWhole)
  (arg12 : Memref sig .tc .vmem S128x128 .f32) (harg12 : arg12.IsWhole)
  (arg13 : Memref sig .tc .vmem S8x128 .f32) (harg13 : arg13.IsWhole)
  (arg14 : Memref sig .tc .vmem S8x256 .bf16) (harg14 : arg14.IsWhole)
variable (H : Vec F S1x16 .f32) (G B : Vec F S1x16384 .f32) (X : Vec F S128x16384 .bf16)

/-- Contents that read `Z`, held whole, are the memref held at `Z`. -/
theorem at_of {s : Shape} {e : EltTy} (m : Memref sig .tc .vmem s e) (f : m.view.ty.Contents (Elt F)) (Z : s.Idx → Elt F e)
    (h : m.view.read (Elt F) f = Z) : (m.view.loc (c : Thread nD τ) ↦[m.view.set]{fullShare} f : sProp 𝕄) ⊢ at_ c m Z :=
  pointsTo_rep_of_read (c : Thread nD τ) m f fullShare Z h

/-- A memref stored whole is held at what was stored. -/
theorem at_store {s : Shape} {e : EltTy} (m : Memref sig .tc .vmem s e) (f : m.view.ty.Contents (Elt F)) {off : Fin s.rank → ℕ} (inb : ∀ a, off a + s.size a ≤ s.size a)
    (w : (Rect.unit off s.size inb).shape.Idx → Elt F e) (L : List (View.Piece (Elt F) s e)) :
    (m.view.loc (c : Thread nD τ) ↦[m.view.set]{fullShare} m.view.writes (Elt F) f (⟨Rect.unit off s.size inb, w⟩ :: L) : sProp 𝕄) ⊢ at_ c m w :=
  at_of c m _ _ (View.read_writes_full m.view f inb w L)

theorem trips1 : k0_t1_loop.trips = 8 := by decide +kernel
theorem trips2 : k0_t2_loop.trips = 128 := by decide +kernel
theorem trips3 : k0_t3_loop.trips = 31 := by decide +kernel

/-- The first part at the first grid point: the scale is stored, the running maxima and the ones are set up. -/
theorem part26_first (hi : k0_cond1 i = 1#1) (f7 : arg7.view.ty.Contents (Elt F)) (f13 : arg13.view.ty.Contents (Elt F)) (f14 : arg14.view.ty.Contents (Elt F)) :
    iprop(at_ c arg1 H ∗ (arg7.view.loc (c : Thread nD τ) ↦[arg7.view.set]{fullShare} f7) ∗ (arg13.view.loc (c : Thread nD τ) ↦[arg13.view.set]{fullShare} f13)
        ∗ (arg14.view.loc (c : Thread nD τ) ↦[arg14.view.set]{fullShare} f14))
      ⊢ wp frame (wpE (defs₀ (F := F)) 𝒱 (c : Thread nD τ) bd) E (k0_part26 (F := F) i arg1 harg1 arg2 harg2 arg3 harg3 arg4 harg4 arg5 harg5 arg6 harg6 arg7 harg7 arg8 harg8 arg9 harg9 arg10 harg10 arg11 harg11 arg12 harg12 arg13 harg13 arg14 harg14)
          (fun v => iprop(⌜v = ⟨BitVec.ofNat 32 (i 0).val, k0_pay250 H, k0_pay251 H, k0_pay252⟩⌝ ∗ at_ c arg1 H ∗ at_ c arg7 (k0_pay247 (k0_pay1 H))
            ∗ at_ c arg13 (k0_pay248 (F := F)) ∗ at_ c arg14 (k0_pay249 (F := F)))) := by
  iintro ⟨H1, H7, H13, H14⟩
  sl_exec
  sl_step
  sl_unfold_run_names
  ihave H7 := (at_store c arg7 _ _ _ _) $$ H7
  ihave H13 := (at_store c arg13 _ _ _ _) $$ H13
  ihave H14 := (at_store c arg14 _ _ _ _) $$ H14
  simp only [View.readAt_rep_full (s := S1x16)]
  iframe H1 H7 H13 H14

/-- The first part at a later grid point. -/
theorem part26_later (hi : ¬ k0_cond1 i = 1#1) :
    iprop(at_ (F := F) c arg1 H)
      ⊢ wp frame (wpE (defs₀ (F := F)) 𝒱 (c : Thread nD τ) bd) E (k0_part26 (F := F) i arg1 harg1 arg2 harg2 arg3 harg3 arg4 harg4 arg5 harg5 arg6 harg6 arg7 harg7 arg8 harg8 arg9 harg9 arg10 harg10 arg11 harg11 arg12 harg12 arg13 harg13 arg14 harg14)
          (fun v => iprop(⌜v = ⟨BitVec.ofNat 32 (i 0).val, k0_pay250 H, k0_pay251 H, k0_pay252⟩⌝ ∗ at_ c arg1 H)) := by
  iintro H1
  sl_exec
  sl_step
  sl_unfold_run_names
  isplitr
  · ipureintro
    simp only [View.readAt_rep_full (s := S1x16)]
  iexact H1

/-- The second part: the row sums. -/
theorem part27 (f11 : arg11.view.ty.Contents (Elt F)) (f12 : arg12.view.ty.Contents (Elt F)) (v6 : FVec F S1x1 .f32) (v37 : IVec S1x1 32) (v38 : FVec F S1x1 .f32) :
    iprop(at_ c arg4 X ∗ at_ c arg14 (k0_pay249 (F := F)) ∗ (arg11.view.loc (c : Thread nD τ) ↦[arg11.view.set]{fullShare} f11)
        ∗ (arg12.view.loc (c : Thread nD τ) ↦[arg12.view.set]{fullShare} f12))
      ⊢ wp frame (wpE (defs₀ (F := F)) 𝒱 (c : Thread nD τ) bd) E (k0_part27 (F := F) i arg1 harg1 arg2 harg2 arg3 harg3 arg4 harg4 arg5 harg5 arg6 harg6 arg7 harg7 arg8 harg8 arg9 harg9 arg10 harg10 arg11 harg11 arg12 harg12 arg13 harg13 arg14 harg14 v6 v37 v38)
          (fun v => iprop(⌜v = ⟨k0_pay253 v6 v37 v38, k0_pay258 (s1 X) (s2 X), Scalar.cmpi .sgt (extractAt ![0, 0, 0] (k0_pay259 (s1 X) (s2 X)) inpos_S1x1x1_p0_0_0) 0#32, mus X⟩⌝
            ∗ at_ c arg4 X ∗ at_ c arg14 (k0_pay249 (F := F)) ∗ at_ c arg11 (s1 X) ∗ at_ c arg12 (s2 X))) := by
  iintro ⟨H4, H14, H11, H12⟩
  unfold k0_part27
  sl_exec
  sl_for (inv1 c arg4 arg11 arg12 arg14 X) $$ [H4 H14 H11 H12]
  case region => intro k acc; exact trip1 𝒱 c bd E i arg1 harg1 arg2 harg2 arg3 harg3 arg4 harg4 arg5 harg5 arg6 harg6 arg7 harg7 arg8 harg8 arg9 harg9 arg10 harg10 arg11 harg11 arg12 harg12 arg13 harg13 arg14 harg14 X v6 v37 v38 k
  · unfold inv1
    iframe H4 H14
    isplitl [H11]
    · iexists _; isplitl [H11]; · iexact H11
      ipureintro; intro j hj; omega
    · iexists _; isplitl [H12]; · iexact H12
      ipureintro; intro j hj; omega
  iintro %acc HI; unfold inv1; icases HI with ⟨H4, H14, ⟨%g11, H11, %h11⟩, ⟨%g12, H12, %h12⟩⟩
  rw [show Scf.trips k0_t1_loop.lb k0_t1_loop.ub k0_t1_loop.st = 8 from trips1] at h11 h12
  ihave H11 := (at_of c arg11 g11 (s1 X) (eq_stack _ _ h11)) $$ H11
  ihave H12 := (at_of c arg12 g12 (s2 X) (eq_stack _ _ h12)) $$ H12
  sl_exec
  sl_step
  sl_unfold_run_names
  isplitr
  · ipureintro
    simp only [View.readAt_rep_full (s := S128x128)]
    rfl
  iframe H4 H14 H11 H12

/-- Columns `128 j` to `128 j + 127` fit in the row block. -/
theorem chunk_inb {j : ℕ} (hj : j < 128) : ∀ a, (![0, 128 * j] : Fin 2 → ℕ) a + S128x128.size a ≤ S128x16384.size a := fun a => by
  match a with
  | ⟨0, _⟩ => show 0 + 128 ≤ 128; omega
  | ⟨1, _⟩ => show 128 * j + 128 ≤ 16384; omega

/-- Columns `128 j` to `128 j + 127` fit in a row of weights. -/
theorem lane_inb {j : ℕ} (hj : j < 128) : ∀ a, (![0, 128 * j] : Fin 2 → ℕ) a + S1x128.size a ≤ S1x16384.size a := fun a => by
  match a with
  | ⟨0, _⟩ => show 0 + 1 ≤ 1; omega
  | ⟨1, _⟩ => show 128 * j + 128 ≤ 16384; omega

/-- A chunk is what a load of it reads. -/
theorem chunk_as (m : Memref sig .tc .vmem S128x16384 .bf16) {j : ℕ} (hj : j < 128) :
    chunk X j = m.view.readAt (Elt F) (Rect.unit (s := S128x16384) ![0, 128 * j] S128x128.size (chunk_inb hj)).toLoadRect (m.view.rep X) :=
  (read_chunk X m (chunk_inb hj) j rfl).symm

/-- A lane of weights is what a load of it reads. -/
theorem lane_as (m : Memref sig .tc .vmem S1x16384 .f32) {j : ℕ} (hj : j < 128) :
    lane G j = m.view.readAt (Elt F) (Rect.unit (s := S1x16384) ![0, 128 * j] S1x128.size (lane_inb hj)).toLoadRect (m.view.rep G) :=
  (read_lane G m (lane_inb hj) j rfl).symm

/-- The third part: the means and the reciprocal deviations, by the moments' difference or, where that is unsafe, by the centred pass. -/
theorem part28 (M : FVec F S8x128 .f32) (f9 : arg9.view.ty.Contents (Elt F)) (f10 : arg10.view.ty.Contents (Elt F)) :
    iprop(at_ c arg4 X ∗ at_ c arg11 (s1 X) ∗ at_ c arg12 (s2 X) ∗ at_ c arg13 M ∗ (arg9.view.loc (c : Thread nD τ) ↦[arg9.view.set]{fullShare} f9)
        ∗ (arg10.view.loc (c : Thread nD τ) ↦[arg10.view.set]{fullShare} f10))
      ⊢ wp frame (wpE (defs₀ (F := F)) 𝒱 (c : Thread nD τ) bd) E
          (k0_part28 (F := F) i arg1 harg1 arg2 harg2 arg3 harg3 arg4 harg4 arg5 harg5 arg6 harg6 arg7 harg7 arg8 harg8 arg9 harg9 arg10 harg10 arg11 harg11 arg12 harg12 arg13 harg13 arg14 harg14 (k0_pay258 (s1 X) (s2 X)) (Scalar.cmpi .sgt (extractAt ![0, 0, 0] (k0_pay259 (s1 X) (s2 X)) inpos_S1x1x1_p0_0_0) 0#32) (mus X))
          (fun v => iprop(⌜v = ⟨M, Scalar.addi 0#32 0#32, k0_pay267 (chunk X 0) (mus X) (rss X)⟩⌝
            ∗ at_ c arg4 X ∗ at_ c arg11 (mus X) ∗ at_ c arg12 (rss X) ∗ at_ c arg13 M ∗ at_ c arg9 (k0_pay265 (mus X)) ∗ at_ c arg10 (k0_pay266 (rss X)))) := by
  have e0 : k0_off67 0#32 0#32 = ![0, 128 * 0] := k0_off67_eq 0 0
  iintro ⟨H4, H11, H12, H13, H9, H10⟩
  unfold k0_part28
  by_cases hv : canc X = 1#1
  · have hr : rss X = k0_pay264 (cen X 128) := if_pos hv
    rw [hr]
    unfold canc at hv
    sl_exec
    sl_unfold_run_names
    ihave H11 := (at_store c arg11 _ _ _ _) $$ H11
    sl_for (inv2 c arg4 arg11 X) $$ [H4 H11]
    case region => intro k acc; exact trip2 𝒱 c bd E i arg1 harg1 arg2 harg2 arg3 harg3 arg4 harg4 arg5 harg5 arg6 harg6 arg7 harg7 arg8 harg8 arg9 harg9 arg10 harg10 arg11 harg11 arg12 harg12 arg13 harg13 arg14 harg14 X (k0_pay258 (s1 X) (s2 X)) (Scalar.cmpi .sgt (extractAt ![0, 0, 0] (k0_pay259 (s1 X) (s2 X)) inpos_S1x1x1_p0_0_0) 0#32) (mus X) k acc
    · unfold inv2
      iframe H4 H11
      ipureintro; rfl
    iintro %acc HI; unfold inv2; icases HI with ⟨H4, H11, %hacc⟩
    rw [show Scf.trips k0_t2_loop.lb k0_t2_loop.ub k0_t2_loop.st = 128 from trips2] at hacc
    subst hacc
    sl_exec
    sl_step
    sl_unfold_run_names
    ihave H12 := (at_store c arg12 _ _ _ _) $$ H12
    ihave H9 := (at_store c arg9 _ _ _ _) $$ H9
    ihave H10 := (at_store c arg10 _ _ _ _) $$ H10
    simp only [View.readAt_rep_full (s := S128x128), View.readAt_rep_full (s := S8x128), View.readAt_writes_full (s := S128x128), View.readCov_full (s := S128x128)]
    iframe H4 H11 H12 H13 H9 H10
    ipureintro
    rw [chunk_as X arg4 (j := 0) (by omega)]; rfl
  · have hr : rss X = k0_pay261 (k0_pay258 (s1 X) (s2 X)) := if_neg hv
    rw [hr]
    unfold canc at hv
    sl_exec
    sl_step
    sl_unfold_run_names
    ihave H11 := (at_store c arg11 _ _ _ _) $$ H11
    ihave H12 := (at_store c arg12 _ _ _ _) $$ H12
    ihave H9 := (at_store c arg9 _ _ _ _) $$ H9
    ihave H10 := (at_store c arg10 _ _ _ _) $$ H10
    simp only [View.readAt_rep_full (s := S128x128), View.readAt_rep_full (s := S8x128), View.readAt_writes_full (s := S128x128), View.readCov_full (s := S128x128)]
    iframe H4 H11 H12 H13 H9 H10
    ipureintro
    rw [chunk_as X arg4 (j := 0) (by omega)]; rfl

/-- The fourth part: chunk 0 normalised and coded, chunk 1 normalised. -/
theorem part29 (M : FVec F S8x128 .f32) (f5 : arg5.view.ty.Contents (Elt F)) (v98 : BitVec 32) :
    iprop(at_ c arg2 G ∗ at_ c arg3 B ∗ at_ c arg4 X ∗ at_ c arg11 (mus X) ∗ at_ c arg12 (rss X) ∗ (arg5.view.loc (c : Thread nD τ) ↦[arg5.view.set]{fullShare} f5))
      ⊢ wp frame (wpE (defs₀ (F := F)) 𝒱 (c : Thread nD τ) bd) E (k0_part29 (F := F) i arg1 harg1 arg2 harg2 arg3 harg3 arg4 harg4 arg5 harg5 arg6 harg6 arg7 harg7 arg8 harg8 arg9 harg9 arg10 harg10 arg11 harg11 arg12 harg12 arg13 harg13 arg14 harg14 (inv H) M v98 (k0_pay267 (chunk X 0) (mus X) (rss X)))
          (fun v => iprop(⌜v = ⟨amaxAcc X G B M 1, Scalar.addi 0#32 128#32, ychunk X G B 1, k0_pay272 (chunk X 1) (mus X) (rss X) (lane G 1) (lane B 1)⟩⌝
            ∗ at_ c arg2 G ∗ at_ c arg3 B ∗ at_ c arg4 X ∗ at_ c arg11 (mus X) ∗ at_ c arg12 (rss X) ∗ some_ c arg5 (Codes H G B X 1))) := by
  have e0 : k0_off67 0#32 0#32 = ![0, 128 * 0] := k0_off67_eq 0 0
  iintro ⟨H2, H3, H4, H11, H12, H5⟩
  unfold k0_part29
  sl_exec
  sl_step
  sl_unfold_run_names
  simp only [View.readAt_rep_full (s := S128x128)]
  iframe H2 H3 H4 H11 H12
  isplitr; · ipureintro; simp only [amaxAcc, amaxStep, code, ychunk, chunk_as X arg4 (j := 0) (by omega), chunk_as X arg4 (j := 1) (by omega), lane_as G arg2 (j := 0) (by omega), lane_as G arg2 (j := 1) (by omega), lane_as B arg3 (j := 0) (by omega), lane_as B arg3 (j := 1) (by omega)]; rfl
  iexists _; isplitl [H5]; · iexact H5
  ipureintro
  exact Codes.write (n := 0) (by omega) (by omega) _ _ _ _ _ (fun j hj => absurd hj (Nat.not_lt_zero j)) e0 (by simp only [amaxAcc, amaxStep, code, ychunk, chunk_as X arg4 (j := 0) (by omega), chunk_as X arg4 (j := 1) (by omega), lane_as G arg2 (j := 0) (by omega), lane_as G arg2 (j := 1) (by omega), lane_as B arg3 (j := 0) (by omega), lane_as B arg3 (j := 1) (by omega)]; rfl)

/-- The fifth part: chunk 1 coded, chunk 2 normalised and its codes computed. -/
theorem part30 (M : FVec F S8x128 .f32) (f5 : arg5.view.ty.Contents (Elt F)) (h5 : Codes H G B X 1 (arg5.view.read (Elt F) f5)) (v131 : BitVec 32) :
    iprop(at_ c arg2 G ∗ at_ c arg3 B ∗ at_ c arg4 X ∗ at_ c arg11 (mus X) ∗ at_ c arg12 (rss X) ∗ (arg5.view.loc (c : Thread nD τ) ↦[arg5.view.set]{fullShare} f5))
      ⊢ wp frame (wpE (defs₀ (F := F)) 𝒱 (c : Thread nD τ) bd) E
          (k0_part30 (F := F) i arg1 harg1 arg2 harg2 arg3 harg3 arg4 harg4 arg5 harg5 arg6 harg6 arg7 harg7 arg8 harg8 arg9 harg9 arg10 harg10 arg11 harg11 arg12 harg12 arg13 harg13 arg14 harg14 (inv H) (amaxAcc X G B M 1) v131 (ychunk X G B 1) (k0_pay272 (chunk X 1) (mus X) (rss X) (lane G 1) (lane B 1)))
          (fun v => iprop(⌜v = ⟨Scalar.addi 0#32 256#32, amaxAcc X G B M 3, code H X G B 2⟩⌝
            ∗ at_ c arg2 G ∗ at_ c arg3 B ∗ at_ c arg4 X ∗ at_ c arg11 (mus X) ∗ at_ c arg12 (rss X) ∗ some_ c arg5 (Codes H G B X 2))) := by
  have e1 : k0_off67 0#32 128#32 = ![0, 128 * 1] := k0_off67_eq 0 1
  iintro ⟨H2, H3, H4, H11, H12, H5⟩
  unfold k0_part30
  sl_exec
  sl_step
  sl_unfold_run_names
  simp only [View.readAt_rep_full (s := S128x128)]
  iframe H2 H3 H4 H11 H12
  isplitr; · ipureintro; simp only [amaxAcc, amaxStep, code, ychunk, chunk_as X arg4 (j := 2) (by omega), lane_as G arg2 (j := 2) (by omega), lane_as B arg3 (j := 2) (by omega)]; rfl
  iexists _; isplitl [H5]; · iexact H5
  ipureintro
  exact Codes.write (n := 1) (by omega) (by omega) _ _ _ _ _ h5 e1 (by simp only [amaxAcc, amaxStep, code, ychunk, chunk_as X arg4 (j := 1) (by omega), lane_as G arg2 (j := 1) (by omega), lane_as B arg3 (j := 1) (by omega)]; rfl)

/-- The sixth part: chunks 2 and 3 coded, then the pipelined loop over the others. -/
theorem part31 (M : FVec F S8x128 .f32) (f5 : arg5.view.ty.Contents (Elt F)) (h5 : Codes H G B X 2 (arg5.view.read (Elt F) f5)) (f6 : arg6.view.ty.Contents (Elt F)) (v164 : BitVec 32) :
    iprop(at_ c arg2 G ∗ at_ c arg3 B ∗ at_ c arg4 X ∗ at_ c arg11 (mus X) ∗ at_ c arg12 (rss X) ∗ at_ c arg13 M ∗ (arg5.view.loc (c : Thread nD τ) ↦[arg5.view.set]{fullShare} f5)
        ∗ (arg6.view.loc (c : Thread nD τ) ↦[arg6.view.set]{fullShare} f6))
      ⊢ wp frame (wpE (defs₀ (F := F)) 𝒱 (c : Thread nD τ) bd) E
          (k0_part31 (F := F) i arg1 harg1 arg2 harg2 arg3 harg3 arg4 harg4 arg5 harg5 arg6 harg6 arg7 harg7 arg8 harg8 arg9 harg9 arg10 harg10 arg11 harg11 arg12 harg12 arg13 harg13 arg14 harg14 (inv H) v164 (amaxAcc X G B M 3) (code H X G B 2))
          (fun v => iprop(⌜v = amaxAcc X G B M 128⌝
            ∗ at_ c arg2 G ∗ at_ c arg3 B ∗ at_ c arg4 X ∗ at_ c arg11 (mus X) ∗ at_ c arg12 (rss X) ∗ at_ c arg13 M ∗ some_ c arg5 (Codes H G B X 128)
            ∗ some_ c arg6 (CodesT H G B X 124))) := by
  have e2 : k0_off67 0#32 256#32 = ![0, 128 * 2] := k0_off67_eq 0 2
  have e3 : k0_off67 0#32 384#32 = ![0, 128 * 3] := k0_off67_eq 0 3
  iintro ⟨H2, H3, H4, H11, H12, H13, H5, H6⟩
  unfold k0_part31
  sl_exec
  sl_unfold_run_names
  simp only [View.readAt_rep_full (s := S128x128)]
  sl_for (inv3 c arg2 arg3 arg4 arg5 arg6 arg11 arg12 H G B X M) $$ [H2 H3 H4 H11 H12 H5 H6]
  case region => intro k acc; exact trip3 𝒱 c bd E i arg1 harg1 arg2 harg2 arg3 harg3 arg4 harg4 arg5 harg5 arg6 harg6 arg7 harg7 arg8 harg8 arg9 harg9 arg10 harg10 arg11 harg11 arg12 harg12 arg13 harg13 arg14 harg14 H G B X M v164 (amaxAcc X G B M 3) (code H X G B 2) k acc
  · unfold inv3
    iframe H2 H3 H4 H11 H12
    isplitl [H5]
    · iexists _; isplitl [H5]; · iexact H5
      ipureintro
      refine Codes.write (n := 3) (by omega) (by omega) _ _ _ _ _ ?_ e3 (by simp only [amaxAcc, amaxStep, code, ychunk, chunk_as X arg4 (j := 3) (by omega), lane_as G arg2 (j := 3) (by omega), lane_as B arg3 (j := 3) (by omega)]; rfl)
      exact Codes.write (n := 2) (by omega) (by omega) _ _ _ _ _ h5 e2 rfl
    isplitl [H6]
    · iexists _; isplitl [H6]; · iexact H6
      ipureintro; intro j hj; omega
    ipureintro; simp only [amaxAcc, amaxStep, code, ychunk, chunk_as X arg4 (j := 3) (by omega), lane_as G arg2 (j := 3) (by omega), lane_as B arg3 (j := 3) (by omega)]; rfl
  iintro %acc HI; unfold inv3; icases HI with ⟨H2, H3, H4, H11, H12, ⟨%g5, H5, %h5'⟩, ⟨%g6, H6, %h6⟩, %hacc⟩
  rw [show Scf.trips k0_t3_loop.lb k0_t3_loop.ub k0_t3_loop.st = 31 from trips3] at hacc h5' h6
  subst hacc
  sl_exec
  sl_step
  iframe H2 H3 H4 H11 H12 H13
  isplitr; · ipureintro; rfl
  isplitl [H5]
  · iexists _; isplitl [H5]; · iexact H5
    ipureintro; exact h5'
  iexists _; isplitl [H6]; · iexact H6
  ipureintro; exact h6

/-- The last part: the running maxima put back, the last four chunks transposed, and at the last grid point the maximum stored. -/
theorem part32 (A0 : Vec F S1x1 .f32) (W : FVec F S8x128 .f32) (f13 : arg13.view.ty.Contents (Elt F)) (f5 : arg5.view.ty.Contents (Elt F)) (h5 : Codes H G B X 128 (arg5.view.read (Elt F) f5))
    (f6 : arg6.view.ty.Contents (Elt F)) (h6 : CodesT H G B X 124 (arg6.view.read (Elt F) f6)) (v0 : BitVec 32) :
    iprop((arg5.view.loc (c : Thread nD τ) ↦[arg5.view.set]{fullShare} f5) ∗ (arg6.view.loc (c : Thread nD τ) ↦[arg6.view.set]{fullShare} f6)
        ∗ (arg13.view.loc (c : Thread nD τ) ↦[arg13.view.set]{fullShare} f13) ∗ at_ c arg8 A0)
      ⊢ wp frame (wpE (defs₀ (F := F)) 𝒱 (c : Thread nD τ) bd) E (k0_part32 (F := F) i arg1 harg1 arg2 harg2 arg3 harg3 arg4 harg4 arg5 harg5 arg6 harg6 arg7 harg7 arg8 harg8 arg9 harg9 arg10 harg10 arg11 harg11 arg12 harg12 arg13 harg13 arg14 harg14 v0 W)
          (fun _ => iprop((arg5.view.loc (c : Thread nD τ) ↦[arg5.view.set]{fullShare} f5) ∗ some_ c arg6 (CodesT H G B X 128)
            ∗ at_ c arg13 (k0_pay281 W) ∗ at_ c arg8 (if k0_cond3 i = 1#1 then k0_pay286 (k0_pay281 W) else A0))) := by
  have e0 : k0_off67 15872#32 0#32 = ![0, 128 * 124] := k0_off67_eq 1 0
  have e1 : k0_off67 15872#32 128#32 = ![0, 128 * 125] := k0_off67_eq 1 1
  have e2 : k0_off67 15872#32 256#32 = ![0, 128 * 126] := k0_off67_eq 1 2
  have e3 : k0_off67 15872#32 384#32 = ![0, 128 * 127] := k0_off67_eq 1 3
  have s0 : k0_off73 0#32 = ![128 * 124, 0] := k0_off73_eq 0
  have s1 : k0_off73 128#32 = ![128 * 125, 0] := k0_off73_eq 1
  have s2 : k0_off73 256#32 = ![128 * 126, 0] := k0_off73_eq 2
  have s3 : k0_off73 384#32 = ![128 * 127, 0] := k0_off73_eq 3
  iintro ⟨H5, H6, H13, H8⟩
  by_cases hi : k0_cond3 i = 1#1
  · rw [if_pos hi]
    sl_exec
    sl_step
    sl_unfold_run_names
    ihave H13 := (at_store c arg13 _ _ _ _) $$ H13
    ihave H8 := (at_store c arg8 _ _ _ _) $$ H8
    simp only [View.readCov_full (s := S8x128), View.readAt_writes_full (s := S8x128)]
    iframe H5 H13 H8
    iexists _; isplitl [H6]; · iexact H6
    ipureintro
    refine CodesT.write (n := 127) (by omega) (by omega) _ _ _ _ _ ?_ s3 (Codes.transposed _ _ h5 _ _ (by omega) e3)
    refine CodesT.write (n := 126) (by omega) (by omega) _ _ _ _ _ ?_ s2 (Codes.transposed _ _ h5 _ _ (by omega) e2)
    refine CodesT.write (n := 125) (by omega) (by omega) _ _ _ _ _ ?_ s1 (Codes.transposed _ _ h5 _ _ (by omega) e1)
    exact CodesT.write (n := 124) (by omega) (by omega) _ _ _ _ _ h6 s0 (Codes.transposed _ _ h5 _ _ (by omega) e0)
  · rw [if_neg hi]
    sl_exec
    sl_step
    sl_unfold_run_names
    ihave H13 := (at_store c arg13 _ _ _ _) $$ H13
    iframe H5 H13 H8
    iexists _; isplitl [H6]; · iexact H6
    ipureintro
    refine CodesT.write (n := 127) (by omega) (by omega) _ _ _ _ _ ?_ s3 (Codes.transposed _ _ h5 _ _ (by omega) e3)
    refine CodesT.write (n := 126) (by omega) (by omega) _ _ _ _ _ ?_ s2 (Codes.transposed _ _ h5 _ _ (by omega) e2)
    refine CodesT.write (n := 125) (by omega) (by omega) _ _ _ _ _ ?_ s1 (Codes.transposed _ _ h5 _ _ (by omega) e1)
    exact CodesT.write (n := 124) (by omega) (by omega) _ _ _ _ _ h6 s0 (Codes.transposed _ _ h5 _ _ (by omega) e0)

/-- What a grid point leaves: the four inputs as they were, the codes and their transposes, the means and the reciprocal deviations, the scale `S`, the maximum
    at the last point, the running maxima. -/
def left (S A0 : Vec F S1x1 .f32) (M : FVec F S8x128 .f32) : sProp 𝕄 :=
  iprop(at_ c arg1 H ∗ at_ c arg2 G ∗ at_ c arg3 B ∗ at_ c arg4 X ∗ some_ c arg5 (Codes H G B X 128) ∗ some_ c arg6 (CodesT H G B X 128)
    ∗ at_ c arg7 S ∗ at_ c arg8 (if k0_cond3 i = 1#1 then k0_pay286 (k0_pay281 (amaxAcc X G B M 128)) else A0)
    ∗ at_ c arg9 (k0_pay265 (mus X)) ∗ at_ c arg10 (k0_pay266 (rss X)) ∗ at_ c arg11 (mus X) ∗ at_ c arg12 (rss X)
    ∗ at_ c arg13 (k0_pay281 (amaxAcc X G B M 128)) ∗ at_ c arg14 (k0_pay249 (F := F)))

/-- Everything after the first part, at the running maxima `M`. -/
theorem after26 (S A0 : Vec F S1x1 .f32) (M : FVec F S8x128 .f32) (v0 : BitVec 32) (f5 : arg5.view.ty.Contents (Elt F)) (f6 : arg6.view.ty.Contents (Elt F))
    (f9 : arg9.view.ty.Contents (Elt F)) (f10 : arg10.view.ty.Contents (Elt F)) (f11 : arg11.view.ty.Contents (Elt F)) (f12 : arg12.view.ty.Contents (Elt F)) :
    iprop(at_ c arg1 H ∗ at_ c arg2 G ∗ at_ c arg3 B ∗ at_ c arg4 X ∗ (arg5.view.loc (c : Thread nD τ) ↦[arg5.view.set]{fullShare} f5)
        ∗ (arg6.view.loc (c : Thread nD τ) ↦[arg6.view.set]{fullShare} f6) ∗ at_ c arg7 S ∗ at_ c arg8 A0
        ∗ (arg9.view.loc (c : Thread nD τ) ↦[arg9.view.set]{fullShare} f9) ∗ (arg10.view.loc (c : Thread nD τ) ↦[arg10.view.set]{fullShare} f10)
        ∗ (arg11.view.loc (c : Thread nD τ) ↦[arg11.view.set]{fullShare} f11) ∗ (arg12.view.loc (c : Thread nD τ) ↦[arg12.view.set]{fullShare} f12)
        ∗ at_ c arg13 M ∗ at_ c arg14 (k0_pay249 (F := F)))
      ⊢ wp frame (wpE (defs₀ (F := F)) 𝒱 (c : Thread nD τ) bd) E
          (do
            let ⟨v46, v59, v70, v75⟩ ← k0_part27 (F := F) i arg1 harg1 arg2 harg2 arg3 harg3 arg4 harg4 arg5 harg5 arg6 harg6 arg7 harg7 arg8 harg8 arg9 harg9 arg10 harg10 arg11 harg11 arg12 harg12 arg13 harg13 arg14 harg14 (k0_pay250 H) (k0_pay251 H) k0_pay252
            let ⟨v96, v98, v106⟩ ← k0_part28 (F := F) i arg1 harg1 arg2 harg2 arg3 harg3 arg4 harg4 arg5 harg5 arg6 harg6 arg7 harg7 arg8 harg8 arg9 harg9 arg10 harg10 arg11 harg11 arg12 harg12 arg13 harg13 arg14 harg14 v59 v70 v75
            let ⟨v120, v131, v149, v151⟩ ← k0_part29 (F := F) i arg1 harg1 arg2 harg2 arg3 harg3 arg4 harg4 arg5 harg5 arg6 harg6 arg7 harg7 arg8 harg8 arg9 harg9 arg10 harg10 arg11 harg11 arg12 harg12 arg13 harg13 arg14 harg14 v46 v96 v98 v106
            let ⟨v164, v186, v193⟩ ← k0_part30 (F := F) i arg1 harg1 arg2 harg2 arg3 harg3 arg4 harg4 arg5 harg5 arg6 harg6 arg7 harg7 arg8 harg8 arg9 harg9 arg10 harg10 arg11 harg11 arg12 harg12 arg13 harg13 arg14 harg14 v46 v120 v131 v149 v151
            let v230 ← k0_part31 (F := F) i arg1 harg1 arg2 harg2 arg3 harg3 arg4 harg4 arg5 harg5 arg6 harg6 arg7 harg7 arg8 harg8 arg9 harg9 arg10 harg10 arg11 harg11 arg12 harg12 arg13 harg13 arg14 harg14 v46 v164 v186 v193
            k0_part32 (F := F) i arg1 harg1 arg2 harg2 arg3 harg3 arg4 harg4 arg5 harg5 arg6 harg6 arg7 harg7 arg8 harg8 arg9 harg9 arg10 harg10 arg11 harg11 arg12 harg12 arg13 harg13 arg14 harg14 v0 v230
            (pure PUnit.unit : Prog (TpuEff nD τ sig (Elt F) Λ₀ .tc) PUnit))
          (fun _ => left c i arg1 arg2 arg3 arg4 arg5 arg6 arg7 arg8 arg9 arg10 arg11 arg12 arg13 arg14 H G B X S A0 M) := by
  iintro ⟨H1, H2, H3, H4, H5, H6, H7, H8, H9, H10, H11, H12, H13, H14⟩
  rw [Idealize.SL.Sem.wp_bind]
  ihave Hw := (part27 𝒱 c bd E i arg1 harg1 arg2 harg2 arg3 harg3 arg4 harg4 arg5 harg5 arg6 harg6 arg7 harg7 arg8 harg8 arg9 harg9 arg10 harg10 arg11 harg11 arg12 harg12 arg13 harg13 arg14 harg14 X f11 f12 (k0_pay250 H) (k0_pay251 H) k0_pay252) $$ [H4 H14 H11 H12]
  · iframe H4 H14 H11 H12
  iapply (Idealize.SL.Sem.wp_wand) $$ Hw
  iintro %v ⟨%hv, H4, H14, H11, H12⟩
  subst hv
  dsimp only
  rw [Idealize.SL.Sem.wp_bind]
  ihave Hw := (part28 𝒱 c bd E i arg1 harg1 arg2 harg2 arg3 harg3 arg4 harg4 arg5 harg5 arg6 harg6 arg7 harg7 arg8 harg8 arg9 harg9 arg10 harg10 arg11 harg11 arg12 harg12 arg13 harg13 arg14 harg14 X M f9 f10) $$ [H4 H11 H12 H13 H9 H10]
  · iframe H4 H11 H12 H13 H9 H10
  iapply (Idealize.SL.Sem.wp_wand) $$ Hw
  iintro %v ⟨%hv, H4, H11, H12, H13, H9, H10⟩
  subst hv
  dsimp only
  rw [Idealize.SL.Sem.wp_bind]
  ihave Hw := (part29 𝒱 c bd E i arg1 harg1 arg2 harg2 arg3 harg3 arg4 harg4 arg5 harg5 arg6 harg6 arg7 harg7 arg8 harg8 arg9 harg9 arg10 harg10 arg11 harg11 arg12 harg12 arg13 harg13 arg14 harg14 H G B X M f5 _) $$ [H2 H3 H4 H11 H12 H5]
  · iframe H2 H3 H4 H11 H12 H5
  iapply (Idealize.SL.Sem.wp_wand) $$ Hw
  iintro %v ⟨%hv, H2, H3, H4, H11, H12, ⟨%g5, H5, %h5⟩⟩
  subst hv
  dsimp only
  rw [Idealize.SL.Sem.wp_bind]
  ihave Hw := (part30 𝒱 c bd E i arg1 harg1 arg2 harg2 arg3 harg3 arg4 harg4 arg5 harg5 arg6 harg6 arg7 harg7 arg8 harg8 arg9 harg9 arg10 harg10 arg11 harg11 arg12 harg12 arg13 harg13 arg14 harg14 H G B X M g5 h5 _) $$ [H2 H3 H4 H11 H12 H5]
  · iframe H2 H3 H4 H11 H12 H5
  iapply (Idealize.SL.Sem.wp_wand) $$ Hw
  iintro %v ⟨%hv, H2, H3, H4, H11, H12, ⟨%g5', H5, %h5'⟩⟩
  subst hv
  dsimp only
  rw [Idealize.SL.Sem.wp_bind]
  ihave Hw := (part31 𝒱 c bd E i arg1 harg1 arg2 harg2 arg3 harg3 arg4 harg4 arg5 harg5 arg6 harg6 arg7 harg7 arg8 harg8 arg9 harg9 arg10 harg10 arg11 harg11 arg12 harg12 arg13 harg13 arg14 harg14 H G B X M g5' h5' f6 _) $$ [H2 H3 H4 H11 H12 H13 H5 H6]
  · iframe H2 H3 H4 H11 H12 H13 H5 H6
  iapply (Idealize.SL.Sem.wp_wand) $$ Hw
  iintro %v ⟨%hv, H2, H3, H4, H11, H12, H13, ⟨%q5, H5, %hq5⟩, ⟨%g6, H6, %h6⟩⟩
  subst hv
  rw [Idealize.SL.Sem.wp_bind]
  ihave Hw := (part32 𝒱 c bd E i arg1 harg1 arg2 harg2 arg3 harg3 arg4 harg4 arg5 harg5 arg6 harg6 arg7 harg7 arg8 harg8 arg9 harg9 arg10 harg10 arg11 harg11 arg12 harg12 arg13 harg13 arg14 harg14 H G B X A0 (amaxAcc X G B M 128) _ q5 hq5 g6 h6 v0) $$ [H5 H6 H13 H8]
  · iframe H5 H6 H13 H8
  iapply (Idealize.SL.Sem.wp_wand) $$ Hw
  iintro %v ⟨H5, H6, H13, H8⟩
  sl_step
  unfold left
  iframe H1 H2 H3 H4 H6 H7 H8 H9 H10 H11 H12 H13 H14
  iexists _; isplitl [H5]; · iexact H5
  ipureintro; exact hq5

/-- The whole body at the first grid point. -/
theorem body_first (hi : k0_cond1 i = 1#1) (A0 : Vec F S1x1 .f32) (f5 : arg5.view.ty.Contents (Elt F)) (f6 : arg6.view.ty.Contents (Elt F))
    (f7 : arg7.view.ty.Contents (Elt F)) (f9 : arg9.view.ty.Contents (Elt F)) (f10 : arg10.view.ty.Contents (Elt F)) (f11 : arg11.view.ty.Contents (Elt F))
    (f12 : arg12.view.ty.Contents (Elt F)) (f13 : arg13.view.ty.Contents (Elt F)) (f14 : arg14.view.ty.Contents (Elt F)) :
    iprop(at_ c arg1 H ∗ at_ c arg2 G ∗ at_ c arg3 B ∗ at_ c arg4 X ∗ (arg5.view.loc (c : Thread nD τ) ↦[arg5.view.set]{fullShare} f5)
        ∗ (arg6.view.loc (c : Thread nD τ) ↦[arg6.view.set]{fullShare} f6) ∗ (arg7.view.loc (c : Thread nD τ) ↦[arg7.view.set]{fullShare} f7) ∗ at_ c arg8 A0
        ∗ (arg9.view.loc (c : Thread nD τ) ↦[arg9.view.set]{fullShare} f9) ∗ (arg10.view.loc (c : Thread nD τ) ↦[arg10.view.set]{fullShare} f10)
        ∗ (arg11.view.loc (c : Thread nD τ) ↦[arg11.view.set]{fullShare} f11) ∗ (arg12.view.loc (c : Thread nD τ) ↦[arg12.view.set]{fullShare} f12)
        ∗ (arg13.view.loc (c : Thread nD τ) ↦[arg13.view.set]{fullShare} f13) ∗ (arg14.view.loc (c : Thread nD τ) ↦[arg14.view.set]{fullShare} f14))
      ⊢ wp frame (wpE (defs₀ (F := F)) 𝒱 (c : Thread nD τ) bd) E (cc0_ln_fp8_cast_transpose (F := F) i arg1 harg1 arg2 harg2 arg3 harg3 arg4 harg4 arg5 harg5 arg6 harg6 arg7 harg7 arg8 harg8 arg9 harg9 arg10 harg10 arg11 harg11 arg12 harg12 arg13 harg13 arg14 harg14)
          (fun _ => left c i arg1 arg2 arg3 arg4 arg5 arg6 arg7 arg8 arg9 arg10 arg11 arg12 arg13 arg14 H G B X (k0_pay247 (k0_pay1 H)) A0 k0_pay248) := by
  iintro ⟨H1, H2, H3, H4, H5, H6, H7, H8, H9, H10, H11, H12, H13, H14⟩
  unfold cc0_ln_fp8_cast_transpose
  rw [Idealize.SL.Sem.wp_bind]
  ihave Hw := (part26_first 𝒱 c bd E i arg1 harg1 arg2 harg2 arg3 harg3 arg4 harg4 arg5 harg5 arg6 harg6 arg7 harg7 arg8 harg8 arg9 harg9 arg10 harg10 arg11 harg11 arg12 harg12 arg13 harg13 arg14 harg14 H hi f7 f13 f14) $$ [H1 H7 H13 H14]
  · iframe H1 H7 H13 H14
  iapply (Idealize.SL.Sem.wp_wand) $$ Hw
  iintro %v ⟨%hv, H1, H7, H13, H14⟩
  subst hv
  iapply (after26 𝒱 c bd E i arg1 harg1 arg2 harg2 arg3 harg3 arg4 harg4 arg5 harg5 arg6 harg6 arg7 harg7 arg8 harg8 arg9 harg9 arg10 harg10 arg11 harg11 arg12 harg12 arg13 harg13 arg14 harg14 H G B X _ A0 _ _ f5 f6 f9 f10 f11 f12)
  iframe H1 H2 H3 H4 H5 H6 H7 H8 H9 H10 H11 H12 H13 H14

/-- The whole body at a later grid point, from the running maxima `M`. -/
theorem body_later (hi : ¬ k0_cond1 i = 1#1) (S A0 : Vec F S1x1 .f32) (M : FVec F S8x128 .f32) (f5 : arg5.view.ty.Contents (Elt F)) (f6 : arg6.view.ty.Contents (Elt F))
    (f9 : arg9.view.ty.Contents (Elt F)) (f10 : arg10.view.ty.Contents (Elt F)) (f11 : arg11.view.ty.Contents (Elt F)) (f12 : arg12.view.ty.Contents (Elt F)) :
    iprop(at_ c arg1 H ∗ at_ c arg2 G ∗ at_ c arg3 B ∗ at_ c arg4 X ∗ (arg5.view.loc (c : Thread nD τ) ↦[arg5.view.set]{fullShare} f5)
        ∗ (arg6.view.loc (c : Thread nD τ) ↦[arg6.view.set]{fullShare} f6) ∗ at_ c arg7 S ∗ at_ c arg8 A0
        ∗ (arg9.view.loc (c : Thread nD τ) ↦[arg9.view.set]{fullShare} f9) ∗ (arg10.view.loc (c : Thread nD τ) ↦[arg10.view.set]{fullShare} f10)
        ∗ (arg11.view.loc (c : Thread nD τ) ↦[arg11.view.set]{fullShare} f11) ∗ (arg12.view.loc (c : Thread nD τ) ↦[arg12.view.set]{fullShare} f12)
        ∗ at_ c arg13 M ∗ at_ c arg14 (k0_pay249 (F := F)))
      ⊢ wp frame (wpE (defs₀ (F := F)) 𝒱 (c : Thread nD τ) bd) E (cc0_ln_fp8_cast_transpose (F := F) i arg1 harg1 arg2 harg2 arg3 harg3 arg4 harg4 arg5 harg5 arg6 harg6 arg7 harg7 arg8 harg8 arg9 harg9 arg10 harg10 arg11 harg11 arg12 harg12 arg13 harg13 arg14 harg14)
          (fun _ => left c i arg1 arg2 arg3 arg4 arg5 arg6 arg7 arg8 arg9 arg10 arg11 arg12 arg13 arg14 H G B X S A0 M) := by
  iintro ⟨H1, H2, H3, H4, H5, H6, H7, H8, H9, H10, H11, H12, H13, H14⟩
  unfold cc0_ln_fp8_cast_transpose
  rw [Idealize.SL.Sem.wp_bind]
  ihave Hw := (part26_later 𝒱 c bd E i arg1 harg1 arg2 harg2 arg3 harg3 arg4 harg4 arg5 harg5 arg6 harg6 arg7 harg7 arg8 harg8 arg9 harg9 arg10 harg10 arg11 harg11 arg12 harg12 arg13 harg13 arg14 harg14 H hi) $$ H1
  iapply (Idealize.SL.Sem.wp_wand) $$ Hw
  iintro %v ⟨%hv, H1⟩
  subst hv
  iapply (after26 𝒱 c bd E i arg1 harg1 arg2 harg2 arg3 harg3 arg4 harg4 arg5 harg5 arg6 harg6 arg7 harg7 arg8 harg8 arg9 harg9 arg10 harg10 arg11 harg11 arg12 harg12 arg13 harg13 arg14 harg14 H G B X S A0 M _ f5 f6 f9 f10 f11 f12)
  iframe H1 H2 H3 H4 H5 H6 H7 H8 H9 H10 H11 H12 H13 H14

end Cert.KernelIdeal.Body

end
-- ==== Proof.RunIdeal.lean ====
/-
  The kernel's run: what every grid point is handed and leaves, stated as relations, and the launch over the sixteen
  points. Generic in the float operations.
-/
module

public import proofs.«01_k».proof.Proof.BodyIdeal
public import proofs.«01_k».proof.Proof.Gen.KernelIdeal.Frame
public import Idealize.ShloMosaic.Lib.Pipeline.TableIdle

@[expose] public section

set_option maxRecDepth 16384
set_option maxHeartbeats 1000000

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen Cert.KernelIdeal.Spec Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The history, the weights and the rows of grid point `t`. -/
abbrev hB (c : Dev nD) (t : Fin cfg0.N) : Vec F S1x16 .f32 := iblk m c 0 t
@[inherit_doc hB] abbrev gB (c : Dev nD) (t : Fin cfg0.N) : Vec F S1x16384 .f32 := iblk m c 1 t
@[inherit_doc hB] abbrev bB (c : Dev nD) (t : Fin cfg0.N) : Vec F S1x16384 .f32 := iblk m c 2 t
@[inherit_doc hB] abbrev xB (c : Dev nD) (t : Fin cfg0.N) : Vec F S128x16384 .bf16 := iblk m c 3 t

/-- The running maxima before grid point `n`. -/
def maxes (c : Dev nD) : ℕ → FVec F S8x128 .f32
  | 0 => k0_pay248
  | n + 1 => if h : n < cfg0.N then k0_pay281 (amaxAcc (xB m c ⟨n, h⟩) (gB m c ⟨n, h⟩) (bB m c ⟨n, h⟩) (maxes c n) 128) else maxes c n

/-- The running maxima after grid point `t`. -/
theorem maxes_succ (c : Dev nD) (t : Fin cfg0.N) :
    maxes m c (t.val + 1) = k0_pay281 (amaxAcc (xB m c t) (gB m c t) (bB m c t) (maxes m c t.val) 128) := by
  rw [maxes, dif_pos t.isLt]

/-- The first grid point is the one whose first branch is taken. -/
theorem first_iff : ∀ t : Fin grid0.N, k0_cond1 (grid0.coords t) = 1#1 ↔ t.val = 0 := by decide +kernel
/-- The last grid point is the one whose last branch is taken. -/
theorem last_iff : ∀ t : Fin grid0.N, k0_cond3 (grid0.coords t) = 1#1 ↔ t.val = 15 := by decide +kernel

/-- What the scratch holds before grid point `n`: the running maxima and the ones, from the second point on. -/
def scr (c : Dev nD) (n : ℕ) : sProp 𝕄 :=
  iprop((∃ d, owns (c : Thread nD τ) (Memref.whole cc0_scratch0) fullShare d) ∗ (∃ d, owns (c : Thread nD τ) (Memref.whole cc0_scratch1) fullShare d)
    ∗ (∃ d : Vec F S8x128 .f32, ⌜0 < n → d = maxes m c n⌝ ∗ owns (c : Thread nD τ) (Memref.whole cc0_scratch2 : Memref sig .tc .vmem S8x128 .f32) fullShare d)
    ∗ (∃ d : Vec F S8x256 .bf16, ⌜0 < n → d = k0_pay249⌝ ∗ owns (c : Thread nD τ) (Memref.whole cc0_scratch3 : Memref sig .tc .vmem S8x256 .bf16) fullShare d)
    ∗ ∃ r, prngReg c r)

/-- What each grid point may leave in each window: the inputs as found; the codes of its rows and their transposes; the scale
    from the first point on; the maximum at the last; its rows' means and reciprocal deviations. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => Codes (hB m c t) (gB m c t) (bB m c t) (xB m c t) 128 X
    | ⟨5, _⟩ => fun _ X => CodesT (hB m c t) (gB m c t) (bB m c t) (xB m c t) 128 X
    | ⟨6, _⟩ => fun Y X => X = if t.val = 0 then k0_pay247 (k0_pay1 (hB m c t)) else Y
    | ⟨7, _⟩ => fun Y X => X = if t.val = 15 then k0_pay286 (maxes m c (t.val + 1)) else Y
    | ⟨8, _⟩ => fun _ X => X = k0_pay265 (mus (xB m c t))
    | ⟨9, _⟩ => fun _ X => X = k0_pay266 (rss (xB m c t))
  Φ t := scr m c t.val
  q _ := fullShare
  owed _ := 0

/-- A memref held at contents of which `P` holds is owned at such contents. -/
theorem owns_of_some {s : Shape} {e : EltTy} (c : Dev nD) (M : Memref sig .tc .vmem s e) (P : (s.Idx → Elt F e) → Prop) :
    some_ c M P ⊢ (iprop(∃ X, ⌜P X⌝ ∗ owns (c : Thread nD τ) M fullShare X) : sProp 𝕄) := by
  unfold owns
  iintro ⟨%f, H, %h⟩
  iexists _
  isplitr; · ipureintro; exact h
  iexists f
  isplitr; · ipureintro; rfl
  iexact H

/-- An input window's staging buffer holds its block at every point. -/
theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  rfl
@[inherit_doc finds0] theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  rfl
@[inherit_doc finds0] theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  rfl
@[inherit_doc finds0] theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  rfl

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- One grid point: from what it is handed to what it may leave. -/
theorem sound_body (c : Dev nD) (t : Fin cfg0.N) (Y : (w : Fin cfg0.W) → (cfg0.win w).block.Idx → Elt F (cfg0.win w).elt) (hY : ∀ w, (rdat m c).Finds w t (Y w)) :
    iprop((rdat m c).Φ t.castSucc ∗ (rdat m c).owesAt () t.castSucc
        ∗ owns (c : Thread nD τ) (st0_0 t) fullShare (Y 0) ∗ owns (c : Thread nD τ) (st0_1 t) fullShare (Y 1) ∗ owns (c : Thread nD τ) (st0_2 t) fullShare (Y 2)
        ∗ owns (c : Thread nD τ) (st0_3 t) fullShare (Y 3) ∗ owns (c : Thread nD τ) (st0_4 t) fullShare (Y 4) ∗ owns (c : Thread nD τ) (st0_5 t) fullShare (Y 5)
        ∗ owns (c : Thread nD τ) (st0_6 t) fullShare (Y 6) ∗ owns (c : Thread nD τ) (st0_7 t) fullShare (Y 7) ∗ owns (c : Thread nD τ) (st0_8 t) fullShare (Y 8)
        ∗ owns (c : Thread nD τ) (st0_9 t) fullShare (Y 9))
      ⊢ wp frame (wpE (defs₀ (F := F)) Variants.none (c : Thread nD τ) none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X) ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X) ∗ (∃ X, ⌜(rdat m c).after 3 t (Y 3) X⌝ ∗ owns (c : Thread nD τ) (st0_3 t) fullShare X)
            ∗ (∃ X, ⌜(rdat m c).after 4 t (Y 4) X⌝ ∗ owns (c : Thread nD τ) (st0_4 t) fullShare X) ∗ (∃ X, ⌜(rdat m c).after 5 t (Y 5) X⌝ ∗ owns (c : Thread nD τ) (st0_5 t) fullShare X)
            ∗ (∃ X, ⌜(rdat m c).after 6 t (Y 6) X⌝ ∗ owns (c : Thread nD τ) (st0_6 t) fullShare X) ∗ (∃ X, ⌜(rdat m c).after 7 t (Y 7) X⌝ ∗ owns (c : Thread nD τ) (st0_7 t) fullShare X)
            ∗ (∃ X, ⌜(rdat m c).after 8 t (Y 8) X⌝ ∗ owns (c : Thread nD τ) (st0_8 t) fullShare X) ∗ (∃ X, ⌜(rdat m c).after 9 t (Y 9) X⌝ ∗ owns (c : Thread nD τ) (st0_9 t) fullShare X))) := by
  rw [finds0 m c t _ (hY 0), finds1 m c t _ (hY 1), finds2 m c t _ (hY 2), finds3 m c t _ (hY 3)]
  rw [show (rdat m c).Φ t.castSucc = scr m c t.val from rfl, show (rdat m c).Φ t.succ = scr m c (t.val + 1) from rfl,
    show (rdat m c).owesAt () t.succ = (rdat m c).owesAt () t.castSucc from rfl]
  unfold scr
  iintro ⟨⟨⟨%d0, S0⟩, ⟨%d1, S1⟩, ⟨%d2, %hd2, S2⟩, ⟨%d3, %hd3, S3⟩, HR⟩, Ho, H0, H1, H2, H3, H4, H5, H6, H7, H8, H9⟩
  ihave Hw : wp frame (wpE (defs₀ (F := F)) Variants.none (c : Thread nD τ) none) Set.univ (bodyAt0 t)
      (fun _ => left c (grid0.coords t) (st0_0 t) (st0_1 t) (st0_2 t) (st0_3 t) (st0_4 t) (st0_5 t) (st0_6 t) (st0_7 t) (st0_8 t) (st0_9 t)
        (Memref.whole cc0_scratch0) (Memref.whole cc0_scratch1) (Memref.whole cc0_scratch2) (Memref.whole cc0_scratch3)
        (hB m c t) (gB m c t) (bB m c t) (xB m c t) (if t.val = 0 then k0_pay247 (k0_pay1 (hB m c t)) else Y 6) (Y 7) (maxes m c t.val)) $$ [S0 S1 S2 S3 H0 H1 H2 H3 H4 H5 H6 H7 H8 H9]
  · simp only [owns_eq_rep]
    by_cases h0 : t.val = 0
    · rw [if_pos h0, h0]
      iapply (body_first Variants.none c none Set.univ (grid0.coords t) _ _ _ _ _ _ _ _ _ _ _ _ _ _ _ _ _ _ _ _ _ _ _ _ _ _ _ _ (hB m c t) (gB m c t) (bB m c t) (xB m c t)
        ((first_iff t).mpr h0) (Y 7) _ _ _ _ _ _ _ _ _)
      iframe S0 S1 S2 S3 H0 H1 H2 H3 H4 H5 H6 H7 H8 H9
    · rw [if_neg h0]
      obtain rfl := hd2 (Nat.pos_of_ne_zero h0)
      obtain rfl := hd3 (Nat.pos_of_ne_zero h0)
      iapply (body_later Variants.none c none Set.univ (grid0.coords t) _ _ _ _ _ _ _ _ _ _ _ _ _ _ _ _ _ _ _ _ _ _ _ _ _ _ _ _ (hB m c t) (gB m c t) (bB m c t) (xB m c t)
        (fun h => h0 ((first_iff t).mp h)) (Y 6) (Y 7) (maxes m c t.val) _ _ _ _ _ _)
      iframe S0 S1 S2 S3 H0 H1 H2 H3 H4 H5 H6 H7 H8 H9
  iapply (Idealize.SL.Sem.wp_wand) $$ Hw
  unfold left
  iintro %_ ⟨H0, H1, H2, H3, H4, H5, H6, H7, H8, H9, S0, S1, S2, S3⟩
  ihave H4 := (owns_of_some c (st0_4 t) _) $$ H4
  ihave H5 := (owns_of_some c (st0_5 t) _) $$ H5
  simp only [← owns_eq_rep]
  iframe HR Ho
  isplitl [S0 S1 S2 S3]
  · isplitl [S0]; · iexists _; iexact S0
    isplitl [S1]; · iexists _; iexact S1
    isplitl [S2]
    · iexists _; isplitr
      · ipureintro; intro _; exact (maxes_succ m c t).symm
      iexact S2
    · iexists _; isplitr
      · ipureintro; intro _; rfl
      iexact S3
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  isplitl [H4]; · iexact H4
  isplitl [H5]; · iexact H5
  isplitl [H6]; · iexists _; isplitr; · ipureintro; rfl
                  iexact H6
  isplitl [H7]
  · iexists (if k0_cond3 (grid0.coords t) = 1#1 then k0_pay286 (k0_pay281 (amaxAcc (xB m c t) (gB m c t) (bB m c t) (maxes m c t.val) 128)) else Y 7); isplitr
    · ipureintro
      show _ = if t.val = 15 then k0_pay286 (maxes m c (t.val + 1)) else Y 7
      rw [maxes_succ]
      exact if_congr (last_iff t) rfl rfl
    iexact H7
  isplitl [H8]; · iexists _; isplitr; · ipureintro; rfl
                  iexact H8
  iexists _; isplitr; · ipureintro; rfl
  iexact H9

/-- Every grid point leaves what it may. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-- What the scratch holds before the first point is anything. -/
theorem scr_in (c : Dev nD) : (Pipeline.ΦA spec0 c : sProp 𝕄) ⊢ scr m c 0 := by
  unfold Pipeline.ΦA scr
  rw [scopedRest0_eq]
  simp only [owns_whole]
  iintro ⟨⟨⟨%f0, S0⟩, ⟨%f1, S1⟩, ⟨%f2, S2⟩, ⟨%f3, S3⟩⟩, HR⟩
  iframe HR
  isplitl [S0]; · iexists _; iexact S0
  isplitl [S1]; · iexists _; iexact S1
  isplitl [S2]; · iexists f2; isplitr; · ipureintro; intro h; exact absurd h (Nat.lt_irrefl 0)
                  iexact S2
  iexists f3; isplitr; · ipureintro; intro h; exact absurd h (Nat.lt_irrefl 0)
  iexact S3

/-- After any point the scratch holds something. -/
theorem scr_out (c : Dev nD) (n : ℕ) : scr m c n ⊢ (Pipeline.ΦA spec0 c : sProp 𝕄) := by
  unfold Pipeline.ΦA scr
  rw [scopedRest0_eq]
  simp only [owns_whole]
  iintro ⟨⟨%f0, S0⟩, ⟨%f1, S1⟩, ⟨%f2, %_, S2⟩, ⟨%f3, %_, S3⟩, HR⟩
  iframe HR
  isplitl [S0]; · iexists _; iexact S0
  isplitl [S1]; · iexists _; iexact S1
  isplitl [S2]; · iexists f2; iexact S2
  iexists f3; iexact S3

set_option backward.isDefEq.respectTransparency.types false in
/-- The launch: every weakly fair execution terminates, every array is at what the grid points may leave, every other buffer as it was found, every semaphore
    counter at zero. -/
theorem run : θ_run defs (onTc (τ := τ) (main (F := F))) (s₀ m ρ) (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := body_obligation m) (hshare := fun c w => (rdat m c).share_full (fun _ => rfl) w)
    (howed := fun _ _ => rfl) (V := V m) (hmain := hmain m Variants.none) (hA := fun _ _ => rfl)
    (hin := scr_in m) (hout := fun c => scr_out m c _) (hQ' := fun _ h => h)

/-- The arguments end as they were, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run m ρ)

end Cert.KernelIdeal.Run

end
-- ==== Proof.RowMath.lean ====
/-
  The mean and the centred variance of a row over the extended reals, and the difference of the moments as another way to
  the variance.
-/
module

public import Idealize.ShloMosaic.PureOps.Ideal
public import Mathlib.Algebra.BigOperators.Field

@[expose] public section

noncomputable section

namespace Cert.RowMath

open Idealize.ShloMosaic

/-- The f32 word of 16384 denotes 16384. -/
theorem w16384 : Ideal.ofBits .f32 0x46800000#32 = ((16384 : ℝ) : EReal) := by
  simp [Ideal.ofBits, Ideal.ieee]; norm_num [← EReal.coe_mul]
/-- The f32 word of 1/16384 denotes 1/16384. -/
theorem winv : Ideal.ofBits .f32 0x38800000#32 = ((1 / 16384 : ℝ) : EReal) := by
  simp [Ideal.ofBits, Ideal.ieee]; norm_num [← EReal.coe_mul]
/-- The f32 word of 1/16 denotes 1/16. -/
theorem w16th : Ideal.ofBits .f32 0x3D800000#32 = ((1 / 16 : ℝ) : EReal) := by
  simp [Ideal.ofBits, Ideal.ieee]; norm_num [← EReal.coe_mul]

/-- Dividing by 16384 is multiplying by 1/16384. -/
theorem div16384 (x : EReal) : Ideal.div x ((16384 : ℝ) : EReal) = x * ((1 / 16384 : ℝ) : EReal) :=
  Ideal.div_coe (by norm_num) x

/-- The mean of a row of 16384. -/
def mean (x : Fin 16384 → EReal) : EReal := Ideal.div (∑ k, x k) ((16384 : ℝ) : EReal)
/-- The mean of the squares of a row of 16384. -/
def msq (x : Fin 16384 → EReal) : EReal := Ideal.div (∑ k, x k * x k) ((16384 : ℝ) : EReal)
/-- The mean of the squares of a row less its mean. -/
def cvar (x : Fin 16384 → EReal) : EReal := Ideal.div (∑ k, (x k - mean x) * (x k - mean x)) ((16384 : ℝ) : EReal)

/-- A sum of reals is their sum as extended reals. -/
theorem coe_sum {ι : Type*} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A sum of extended reals with an infinite term is infinite. -/
theorem sum_infinite {ι : Type*} (s : Finset ι) (f : ι → EReal) (i : ι) (hi : i ∈ s) (h : f i = ⊤ ∨ f i = ⊥) :
    ∑ k ∈ s, f k = ⊤ ∨ ∑ k ∈ s, f k = ⊥ := by
  classical
  rw [← Finset.add_sum_erase s f hi]
  generalize ∑ k ∈ s.erase i, f k = y
  rcases h with h | h <;> rw [h]
  · induction y using EReal.rec with
    | bot => exact .inr rfl
    | coe r => exact .inl rfl
    | top => exact .inl rfl
  · exact .inr (EReal.bot_add _)

/-- A square is not below zero. -/
theorem sq_nonneg' (x : EReal) : 0 ≤ x * x := by
  induction x using EReal.rec with
  | bot => simp
  | coe r => rw [← EReal.coe_mul]; exact_mod_cast mul_self_nonneg r
  | top => simp

/-- The square of an infinity is infinite. -/
theorem sq_top {x : EReal} (h : x = ⊤ ∨ x = ⊥) : x * x = ⊤ := by
  rcases h with rfl | rfl
  · exact EReal.top_mul_top
  · exact EReal.bot_mul_bot

/-- A sum of squares with an infinite term is infinite. -/
theorem sumsq_top {ι : Type*} (s : Finset ι) (f : ι → EReal) (i : ι) (hi : i ∈ s) (h : f i = ⊤ ∨ f i = ⊥) :
    ∑ k ∈ s, f k * f k = ⊤ := by
  have hn : 0 ≤ ∑ k ∈ s, f k * f k := Finset.sum_nonneg fun k _ => sq_nonneg' _
  rcases sum_infinite s (fun k => f k * f k) i hi (.inl (sq_top h)) with e | e
  · exact e
  · rw [e] at hn; exact absurd hn (by simp)

/-- An infinity over 16384 is that infinity. -/
theorem div_infinite {x : EReal} (h : x = ⊤ ∨ x = ⊥) :
    Ideal.div x ((16384 : ℝ) : EReal) = ⊤ ∨ Ideal.div x ((16384 : ℝ) : EReal) = ⊥ := by
  rw [div16384]
  rcases h with rfl | rfl
  · exact .inl (EReal.top_mul_coe_of_pos (by norm_num))
  · exact .inr (EReal.bot_mul_coe_of_pos (by norm_num))

/-- Where the difference of the moments is no less than a sixteenth of the mean square, it is the mean of the centred
    squares: in a row of reals always, and a row with an infinity has no such difference. -/
theorem moments_eq (x : Fin 16384 → EReal) (h : msq x * ((1 / 16 : ℝ) : EReal) ≤ msq x - mean x * mean x) :
    msq x - mean x * mean x = cvar x := by
  by_cases hx : ∃ k, x k = ⊤ ∨ x k = ⊥
  · obtain ⟨k, hk⟩ := hx
    have e1 : msq x = ⊤ := by
      unfold msq; rw [sumsq_top _ x k (Finset.mem_univ k) hk, div16384]; exact EReal.top_mul_coe_of_pos (by norm_num)
    have e2 : mean x * mean x = ⊤ := sq_top (div_infinite (sum_infinite _ x k (Finset.mem_univ k) hk))
    rw [e1, e2, EReal.top_mul_coe_of_pos (by norm_num)] at h
    rw [show (⊤ : EReal) - ⊤ = ⊥ from rfl] at h
    exact absurd h (by simp)
  · have hr : ∀ k, ∃ r : ℝ, x k = r := fun k => by
      have : ¬ (x k = ⊤ ∨ x k = ⊥) := fun hk => hx ⟨k, hk⟩
      push Not at this
      exact ⟨(x k).toReal, (EReal.coe_toReal this.1 this.2).symm⟩
    choose f hf using hr
    obtain rfl : x = fun k => (f k : EReal) := funext hf
    have hs : ∀ g : Fin 16384 → ℝ, ∑ k, (g k : EReal) = ((∑ k, g k : ℝ) : EReal) := fun g => (coe_sum _ g).symm
    have em : mean (fun k => (f k : EReal)) = (((∑ k, f k) * (1 / 16384) : ℝ) : EReal) := by
      unfold mean; rw [div16384, hs, ← EReal.coe_mul]
    unfold msq cvar
    rw [em, div16384, div16384]
    simp only [← EReal.coe_mul, ← EReal.coe_sub]
    rw [hs, hs]
    simp only [← EReal.coe_mul, ← EReal.coe_sub]
    refine congrArg Real.toEReal ?_
    generalize hm : (∑ k, f k) * (1 / 16384 : ℝ) = μ
    have hS : ∑ k, f k = 16384 * μ := by rw [← hm]; ring
    have : ∑ k, (f k - μ) * (f k - μ) = ∑ k, f k * f k - 2 * μ * ∑ k, f k + 16384 * (μ * μ) := by
      have e : ∀ k, (f k - μ) * (f k - μ) = f k * f k - 2 * μ * f k + μ * μ := fun k => by ring
      simp only [e, Finset.sum_add_distrib, Finset.sum_sub_distrib, ← Finset.mul_sum, Finset.sum_const, Finset.card_univ,
        Fintype.card_fin, nsmul_eq_mul]
      norm_num; ring
    rw [this, hS]; ring

end Cert.RowMath

end
-- ==== Proof.ScaleMath.lean ====
/-
  THE SCALE OF THE CODES.

  The tensor's scale is a power of two chosen from `a`, the largest entry of the history: the least one above
  `q = |a · (1/448)|`, and 1 when `a` is zero. The kernel finds it by counting the powers of two not above `q`, reads an
  exponent off the count and builds the words of the scale and of its reciprocal; the reference takes the minimum of the
  powers above `q` and divides. Here both are functions of `a`, and they agree while `q` is a normal number below 2^126.
-/
module

public import Idealize.ShloMosaic.PureOps.Ideal
public import Idealize.ShloMosaic.Lib.Pointwise
public import Mathlib.Algebra.Order.Archimedean.Basic
public import Mathlib.Analysis.SpecialFunctions.Pow.Real

@[expose] public section

set_option maxRecDepth 16384

open Idealize.ShloMosaic

namespace Cert.ScaleMath

/-- How many of the 255 words `1·2^23, …, 255·2^23`, read as numbers, are at most `q`. -/
noncomputable def count (q : EReal) : BitVec 32 :=
  Finset.fold IntOp.addi (0#32)
    (fun x : Fin 255 => if Ideal.ofBits .f32 (IntOp.shli .vector (IntOp.addi (BitVec.ofNat 32 x) 1#32) 23#32) ≤ q
      then 1#32 else 0#32) Finset.univ

/-- The exponent the kernel reads off the count: the field less 126, and zero at the two ends of the field. -/
def expo (n : BitVec 32) : BitVec 32 :=
  Scalar.select
    (IntOp.ori
      (IntOp.cmpi .eq (IntOp.andi (IntOp.shrui .vector (IntOp.shli .vector n 23#32) 23#32) 255#32) 0#32)
      (IntOp.cmpi .eq (IntOp.andi (IntOp.shrui .vector (IntOp.shli .vector n 23#32) 23#32) 255#32) 255#32))
    (0#32)
    (IntOp.subi (IntOp.andi (IntOp.shrui .vector (IntOp.shli .vector n 23#32) 23#32) 255#32) 126#32)

/-- `|a · (1/448)|`, the factor read off its word. -/
noncomputable def quo (a : EReal) : EReal :=
  FloatOps.absf (F := Ideal) (φ := .f32) ((a * Ideal.ofBits .f32 0x3B124925#32 : EReal))

/-- The 254 candidate scales, `2^(k-126)`. -/
noncomputable def cand (k : ℕ) : EReal :=
  FloatOps.exp2 (F := Ideal) (φ := .f32) (FloatOps.sitofp (F := Ideal) .f32 (IntOp.subi (BitVec.ofNat 32 k) 126#32))

/-- The scale: 1 if `a` is zero, else the least candidate above `|a · (1/448)|`. -/
noncomputable def scale (a : EReal) : EReal :=
  if a = 0 then 1 else
    Finset.fold min (Ideal.ofBits .f32 0x7F800000#32)
      (fun x : Fin 254 => if quo a < cand x then cand x else Ideal.ofBits .f32 0x7F800000#32) Finset.univ

/-- The reciprocal of the scale. -/
noncomputable def inv (a : EReal) : EReal := Ideal.div 1 (scale a)

/-- What the precondition says of `a`. -/
def InRange (a : EReal) : Prop :=
  quo a < Ideal.ofBits .f32 0x7E800000#32 ∧ (a = 0 ∨ Ideal.ofBits .f32 0x00800000#32 ≤ quo a)

/-- The fields of the word `e · 2^23`: no sign, exponent `e`, fraction zero. -/
theorem fields : ∀ e : Fin 256,
    ((BitVec.ofNat 32 (e * 2 ^ 23)).extractLsb' (8 + 23) 1 == 1#1) = false ∧
    ((BitVec.ofNat 32 (e * 2 ^ 23)).extractLsb' 23 8).toNat = e ∧
    ((BitVec.ofNat 32 (e * 2 ^ 23)).extractLsb' 0 23).toNat = 0 := by decide +kernel

/-- The word `e · 2^23` denotes `2^(e-127)` for `e` from 1 to 254. -/
theorem word_pow (e : ℕ) (h1 : 1 ≤ e) (h2 : e ≤ 254) :
    Ideal.ofBits .f32 (BitVec.ofNat 32 (e * 2 ^ 23)) = (((2 : ℝ) ^ ((e : ℤ) - 127) : ℝ) : EReal) := by
  obtain ⟨f1, f2, f3⟩ := fields ⟨e, by omega⟩
  show Ideal.ieee 8 23 (BitVec.ofNat 32 (e * 2 ^ 23)) = _
  simp only [Ideal.ieee]
  simp only [f1, f2, f3]
  rw [if_neg (by omega), if_neg (by omega)]
  congr 1
  simp only [Bool.false_eq_true, if_false, one_mul]
  push_cast
  rw [show (8388608 : ℝ) = (2 : ℝ) ^ (23 : ℤ) by norm_num, ← zpow_add₀ (by norm_num : (2 : ℝ) ≠ 0)]
  congr 1
  ring

/-- The word of the number one. -/
theorem word_one : Ideal.ofBits .f32 (BitVec.ofNat 32 (127 * 2 ^ 23)) = 1 := by
  rw [word_pow 127 (by omega) (by omega)]
  norm_num

/-- The word `255 · 2^23` denotes `+∞`. -/
theorem word_top : Ideal.ofBits .f32 (BitVec.ofNat 32 (255 * 2 ^ 23)) = ⊤ := by
  obtain ⟨f1, f2, f3⟩ := fields ⟨255, by omega⟩
  show Ideal.ieee 8 23 (BitVec.ofNat 32 (255 * 2 ^ 23)) = _
  simp only [Ideal.ieee]
  simp only [f1, f2, f3]
  norm_num

theorem thr_word : ∀ x : Fin 255,
    IntOp.shli .vector (IntOp.addi (BitVec.ofNat 32 x) 1#32) 23#32 = BitVec.ofNat 32 ((x.val + 1) * 2 ^ 23) := by
  decide +kernel

theorem count_words : ∀ n : Fin 253,
    Finset.fold IntOp.addi (0#32) (fun x : Fin 255 => if x.val < n.val then 1#32 else 0#32) Finset.univ
      = BitVec.ofNat 32 n := by decide +kernel

theorem scale_words : ∀ n : Fin 253, 1 ≤ n.val →
    IntOp.shli .vector (IntOp.addi (expo (BitVec.ofNat 32 n)) 127#32) 23#32
      = BitVec.ofNat 32 ((n.val + 1) * 2 ^ 23) ∧
    IntOp.shli .vector (IntOp.subi 127#32 (expo (BitVec.ofNat 32 n))) 23#32
      = BitVec.ofNat 32 ((253 - n.val) * 2 ^ 23) := by decide +kernel

theorem cand_ints : ∀ k : Fin 254, (IntOp.subi (BitVec.ofNat 32 k.val) 126#32).toInt = (k.val : ℤ) - 126 := by
  decide +kernel

/-- Candidate `k` is `2^(k-126)`. -/
theorem cand_eq (k : Fin 254) : cand k = (((2 : ℝ) ^ ((k.val : ℤ) - 126) : ℝ) : EReal) := by
  show Ideal.exp2 (((IntOp.subi (BitVec.ofNat 32 k.val) 126#32).toInt : ℝ) : EReal) = _
  rw [cand_ints, Ideal.exp2_coe]
  congr 1
  exact Real.rpow_intCast 2 _

/-- The two ends of the range in numbers: 2^126 and 2^-126. -/
theorem hi_eq : Ideal.ofBits .f32 0x7E800000#32 = (((2 : ℝ) ^ (126 : ℤ) : ℝ) : EReal) := by
  have := word_pow 253 (by omega) (by omega)
  norm_num at this ⊢
  exact this

theorem lo_eq : Ideal.ofBits .f32 0x00800000#32 = (((2 : ℝ) ^ (-126 : ℤ) : ℝ) : EReal) := by
  have := word_pow 1 (by omega) (by omega)
  norm_num at this ⊢
  exact this

theorem inf_eq : Ideal.ofBits .f32 0x7F800000#32 = ⊤ := by
  have := word_top
  norm_num at this ⊢
  exact this

/-- In range and `a` not zero: there is `n` from 1 to 252 with `2^(n-127) ≤ q < 2^(n-126)`, in the form the two
    programs test it. -/
theorem exists_expo (a : EReal) (h : InRange a) (ha : a ≠ 0) :
    ∃ n : Fin 253, 1 ≤ n.val ∧ count (quo a) = BitVec.ofNat 32 n ∧ ∀ k : Fin 254, quo a < cand k ↔ n.val ≤ k.val := by
  obtain ⟨h1, h2⟩ := h
  replace h2 := h2.resolve_left ha
  rw [hi_eq] at h1
  rw [lo_eq] at h2
  generalize quo a = q at h1 h2 ⊢
  induction q using EReal.rec with
  | bot => exact absurd h2 (by simp)
  | top => exact absurd h1 (by simp)
  | coe r =>
    rw [EReal.coe_lt_coe_iff] at h1
    rw [EReal.coe_le_coe_iff] at h2
    have hr : 0 < r := lt_of_lt_of_le (by positivity) h2
    obtain ⟨b, hb1, hb2⟩ := exists_mem_Ico_zpow hr (by norm_num : (1 : ℝ) < 2)
    have hle : ∀ k : ℤ, (2 : ℝ) ^ k ≤ r ↔ k ≤ b := fun k =>
      ⟨fun h => Int.lt_add_one_iff.1 ((zpow_lt_zpow_iff_right₀ (by norm_num)).1 (lt_of_le_of_lt h hb2)),
        fun h => le_trans (zpow_le_zpow_right₀ (by norm_num) h) hb1⟩
    have b1 : b < 126 := by
      by_contra hc
      exact absurd h1 (not_lt.2 ((hle 126).2 (not_lt.1 hc)))
    have b2 : -126 ≤ b := (hle _).1 h2
    obtain ⟨n, hn⟩ : ∃ n : ℕ, (n : ℤ) = b + 127 := ⟨(b + 127).toNat, by omega⟩
    refine ⟨⟨n, by omega⟩, by show 1 ≤ n; omega, ?_, fun k => ?_⟩
    · rw [← count_words ⟨n, by omega⟩]
      unfold count
      congr 1
      funext x
      refine if_congr ?_ rfl rfl
      rw [thr_word]
      by_cases hx : x.val = 254
      · rw [hx, word_top]
        refine ⟨fun h => absurd h (by simp), fun h => absurd h ?_⟩
        show ¬ 254 < n
        omega
      · rw [word_pow _ (by omega) (by omega), EReal.coe_le_coe_iff]
        rw [hle]
        show _ ↔ x.val < n
        omega
    · rw [cand_eq, EReal.coe_lt_coe_iff]
      rw [← not_le, hle]
      show _ ↔ n ≤ k.val
      omega

/-- In range and `a` not zero, the scale is `2^(n-126)` for the `n` of the count. -/
theorem scale_eq (a : EReal) (ha : a ≠ 0) (n : Fin 253)
    (hk : ∀ k : Fin 254, quo a < cand k ↔ n.val ≤ k.val) :
    scale a = (((2 : ℝ) ^ ((n.val : ℤ) - 126) : ℝ) : EReal) := by
  have hc : cand (⟨n.val, by omega⟩ : Fin 254) = _ := cand_eq ⟨n.val, by omega⟩
  unfold scale
  rw [if_neg ha, inf_eq]
  refine le_antisymm ?_ ?_
  · rw [Finset.fold_min_le]
    refine Or.inr ⟨⟨n.val, by omega⟩, Finset.mem_univ _, ?_⟩
    rw [if_pos ((hk ⟨n.val, by omega⟩).2 le_rfl)]
    exact hc.le
  · rw [Finset.le_fold_min]
    refine ⟨le_top, fun k _ => ?_⟩
    split_ifs with h
    · rw [cand_eq, EReal.coe_le_coe_iff]
      have := (hk k).1 h
      exact zpow_le_zpow_right₀ (by norm_num) (by omega)
    · exact le_top

/-- The kernel's scale word denotes the scale. -/
theorem kernel_scale (a : EReal) (h : InRange a) :
    Ideal.ofBits .f32 (IntOp.shli .vector (IntOp.addi (if a = 0 then 0#32 else expo (count (quo a))) 127#32) 23#32)
      = scale a := by
  by_cases ha : a = 0
  · rw [if_pos ha, scale, if_pos ha]
    exact word_one
  · obtain ⟨n, h1, hn, hk⟩ := exists_expo a h ha
    rw [if_neg ha, hn, (scale_words n h1).1, word_pow _ (by omega) (by omega), scale_eq a ha n hk]
    congr 2
    push_cast
    ring

/-- The kernel's reciprocal word denotes the reciprocal of the scale. -/
theorem kernel_inv (a : EReal) (h : InRange a) :
    Ideal.ofBits .f32 (IntOp.shli .vector (IntOp.subi 127#32 (if a = 0 then 0#32 else expo (count (quo a)))) 23#32)
      = inv a := by
  by_cases ha : a = 0
  · rw [if_pos ha, inv, scale, if_pos ha]
    rw [show (1 : EReal) = ((1 : ℝ) : EReal) from rfl, Ideal.div_coe one_ne_zero]
    refine Eq.trans word_one ?_
    norm_num
  · obtain ⟨n, h1, hn, hk⟩ := exists_expo a h ha
    rw [if_neg ha, hn, (scale_words n h1).2, word_pow _ (by omega) (by omega), inv, scale_eq a ha n hk,
      Ideal.div_coe (by positivity), one_mul, one_div, ← zpow_neg]
    congr 2
    have := n.isLt
    omega

end Cert.ScaleMath
-- ==== Proof.Values.lean ====
/-
  THE RESULTS, element by element: what each of the six arrays holds, as functions of the rows of the input, the weights
  and the history. Both programs are shown to leave these.
-/
module

public import proofs.«01_k».proof.Proof.RowMath
public import proofs.«01_k».proof.Proof.ScaleMath

@[expose] public section

noncomputable section

open Idealize.ShloMosaic

namespace Cert.Values

/-- The largest entry of the history. -/
def hmax (h : Fin 16 → EReal) : EReal := Finset.fold max (Ideal.ofBits .f32 0xFF800000#32) h Finset.univ
/-- The reciprocal deviation of a row: the reciprocal square root of its variance and a small constant. -/
def rdev (x : Fin 16384 → EReal) : EReal := Ideal.rsqrt (RowMath.cvar x + Ideal.ofBits .f32 0x3727C5AC#32)
/-- Entry `k` of the normalised, weighted row. -/
def norm (x g b : Fin 16384 → EReal) (k : Fin 16384) : EReal := (x k - RowMath.mean x) * rdev x * g k + b k
/-- The code of a value under a history: the value over the scale, clipped to ±448. -/
def code (h : Fin 16 → EReal) (y : EReal) : EReal :=
  min (Ideal.ofBits .f32 0x43E00000#32) (max (Ideal.ofBits .f32 0xC3E00000#32) (y * ScaleMath.inv (hmax h)))
/-- The absolute value. -/
def abs (y : EReal) : EReal := FloatOps.absf (F := Ideal) (φ := .f32) (y : EReal)
/-- The largest absolute value of the normalised rows. -/
def amax (x : Fin 2048 → Fin 16384 → EReal) (g b : Fin 16384 → EReal) : EReal := ⨆ r, ⨆ k, abs (norm (x r) g b k)

/-- An absolute value is not negative. -/
theorem abs_nonneg (y : EReal) : 0 ≤ abs y := by
  show 0 ≤ max y (-y)
  rcases le_total 0 y with h | h
  · exact le_max_of_le_left h
  · exact le_max_of_le_right (EReal.neg_nonneg.2 h)

/-- The word of minus infinity. -/
theorem ninf : Ideal.ofBits .f32 0xFF800000#32 = ⊥ := by
  simp [Ideal.ofBits, Ideal.ieee]

end Cert.Values
-- ==== Proof.BlockIdeal.lean ====
/-
  WHAT THE KERNEL'S BODY COMPUTES, ELEMENT BY ELEMENT, over the extended reals: its row sums, built from 64 column tiles
  and two halves of each, are the sums over the row; its reciprocal deviation is that of the centred squares whichever
  of the two ways it took; its codes are the codes of the normalised rows.
-/
module

public import proofs.«01_k».proof.Proof.SpecIdeal
public import proofs.«01_k».proof.Proof.Values
public import Idealize.ShloMosaic.Lib.Pointwise
public import Idealize.ShloMosaic.Lib.SortNet.Extract

@[expose] public section

set_option maxRecDepth 16384

noncomputable section

open Idealize.ShloMosaic Cert.KernelIdeal.Gen Cert.KernelIdeal.Spec Cert.Blk

namespace Cert.KernelIdeal.Block

/-- A row of 16384, extended by zeros. -/
def ext (x : Fin 16384 → EReal) (k : ℕ) : EReal := if h : k < 16384 then x ⟨k, h⟩ else 0

theorem ext_apply (x : Fin 16384 → EReal) (k : ℕ) (h : k < 16384) : ext x k = x ⟨k, h⟩ := dif_pos h

theorem sum_ext (x : Fin 16384 → EReal) (p : EReal → EReal) (n : ℕ) (hn : n = 16384) :
    ∑ k ∈ Finset.range n, p (ext x k) = ∑ k, p (x k) := by
  subst hn
  rw [← Fin.sum_univ_eq_sum_range (fun k => p (ext x k))]
  exact Finset.sum_congr rfl fun k _ => by rw [ext_apply x k k.isLt]

/-- A sum over columns taken in runs of 256, each run in two halves of 128 lanes, lane by lane. -/
theorem regroup256 (f : ℕ → EReal) (n : ℕ) :
    ∑ l ∈ Finset.range 128, ((∑ j ∈ Finset.range n, f (256 * j + l)) + ∑ j ∈ Finset.range n, f (256 * j + (128 + l)))
      = ∑ k ∈ Finset.range (256 * n), f k := by
  induction n with
  | zero => simp
  | succ n ih =>
    rw [show 256 * (n + 1) = 256 * n + (128 + 128) by ring, Finset.sum_range_add, Finset.sum_range_add, ← ih,
      ← Finset.sum_add_distrib, ← Finset.sum_add_distrib]
    refine Finset.sum_congr rfl fun l _ => ?_
    rw [Finset.sum_range_succ, Finset.sum_range_succ]
    abel

/-- A sum over columns taken in runs of 128, lane by lane. -/
theorem regroup128 (f : ℕ → EReal) (n : ℕ) :
    ∑ l ∈ Finset.range 128, ∑ j ∈ Finset.range n, f (128 * j + l) = ∑ k ∈ Finset.range (128 * n), f k := by
  induction n with
  | zero => simp
  | succ n ih =>
    rw [show 128 * (n + 1) = 128 * n + 128 by ring, Finset.sum_range_add, ← ih, ← Finset.sum_add_distrib]
    exact Finset.sum_congr rfl fun l _ => Finset.sum_range_succ _ _

variable (X : Vec Ideal S128x16384 .bf16)

/-- Row `r` of the row block. -/
def row (r : Fin 128) (k : Fin 16384) : EReal := X (ix2 r k)

theorem tile_apply (g j : ℕ) (hg : g < 16) (hj : j < 64) (r : Fin 8) (l : Fin 256) :
    tile X g j (ix2 r l) = ext (row X ⟨8 * g + r, by omega⟩) (256 * j + l) := by
  rw [ext_apply _ _ (by omega)]
  unfold tile row
  rw [blk_apply _ _ _ _ (fun a => by
    match a with
    | ⟨0, _⟩ => show 8 * g + 8 ≤ 128; omega
    | ⟨1, _⟩ => show 256 * j + 256 ≤ 16384; omega)]
  refine congrArg X (funext fun a => ?_)
  match a with
  | ⟨0, _⟩ => rfl
  | ⟨1, _⟩ => rfl

theorem chunk_apply (j : ℕ) (hj : j < 128) (r l : Fin 128) :
    chunk X j (ix2 r l) = row X r ⟨128 * j + l, by omega⟩ := by
  unfold chunk row
  rw [blk_apply _ _ _ _ (fun a => by
    match a with
    | ⟨0, _⟩ => show 0 + 128 ≤ 128; omega
    | ⟨1, _⟩ => show 128 * j + 128 ≤ 16384; omega)]
  refine congrArg X (funext fun a => ?_)
  match a with
  | ⟨0, _⟩ => exact Fin.ext (Nat.zero_add _)
  | ⟨1, _⟩ => rfl

theorem lane_apply (G : Vec Ideal S1x16384 .f32) (j : ℕ) (hj : j < 128) (l : Fin 128) :
    lane G j (ix2 0 l) = G (ix2 0 ⟨128 * j + l, by omega⟩) := by
  unfold lane
  rw [blk_apply _ _ _ _ (fun a => by
    match a with
    | ⟨0, _⟩ => show 0 + 1 ≤ 1; omega
    | ⟨1, _⟩ => show 128 * j + 128 ≤ 16384; omega)]
  refine congrArg G (funext fun a => ?_)
  match a with
  | ⟨0, _⟩ => rfl
  | ⟨1, _⟩ => rfl

/-! ### The two moments -/

theorem sum1_apply (T : ℕ → Vec Ideal S8x256 .bf16) (n : ℕ) (r : Fin 8) (l : Fin 256) :
    (sum1 T n (ix2 r l) : EReal) = ∑ j ∈ Finset.range (n + 1), (T j (ix2 r l) : EReal) := by
  induction n with
  | zero => rw [Finset.sum_range_one]; pointwise [sum1, k0_pay3, k0_pay2, k0_pay249]
  | succ n ih => rw [Finset.sum_range_succ, ← ih, sum1]; pointwise [k0_pay3, k0_pay2, k0_pay249]

theorem sum2_apply (T : ℕ → Vec Ideal S8x256 .bf16) (n : ℕ) (r : Fin 8) (l : Fin 256) :
    (sum2 T n (ix2 r l) : EReal) = ∑ j ∈ Finset.range (n + 1), (T j (ix2 r l) * T j (ix2 r l) : EReal) := by
  induction n with
  | zero => rw [Finset.sum_range_one]; pointwise [sum2, k0_pay3]
  | succ n ih => rw [Finset.sum_range_succ, ← ih, sum2]; pointwise [k0_pay3]

theorem half254 (T : FVec Ideal S8x256 .f32) (r : Fin 8) (l : Fin 128) :
    (k0_pay254 T (ix2 r l) : EReal) = T (ix2 r ⟨l, by omega⟩) + T (ix2 r ⟨128 + l, by omega⟩) := by
  pointwise [k0_pay254]

theorem half255 (T : FVec Ideal S8x256 .f32) (r : Fin 8) (l : Fin 128) :
    (k0_pay255 T (ix2 r l) : EReal) = T (ix2 r ⟨l, by omega⟩) + T (ix2 r ⟨128 + l, by omega⟩) := by
  pointwise [k0_pay255]

/-- A row of a stack is a row of its group. -/
theorem stack_apply (p : ℕ → FVec Ideal S8x128 .f32) (r l : Fin 128) :
    stack p (ix2 r l) = p (r / 8) (ix2 ⟨r % 8, Nat.mod_lt _ (by decide)⟩ l) := by
  unfold stack
  refine congrArg (p (r / 8)) (funext fun a => ?_)
  match a with
  | ⟨0, _⟩ => rfl
  | ⟨1, _⟩ => rfl

theorem row_split (r : Fin 128) (h : 8 * (r.val / 8) + r.val % 8 < 128) :
    (⟨8 * (r.val / 8) + r.val % 8, h⟩ : Fin 128) = r := Fin.ext (by show 8 * (r.val / 8) + r.val % 8 = r.val; omega)

/-- The lanes of the partial row sums add up to the row's sum. -/
theorem s1_sum (r : Fin 128) : ∑ l : Fin 128, (s1 X (ix2 r l) : EReal) = ∑ k, row X r k := by
  rw [← sum_ext (row X r) (fun z => z) (256 * 64) rfl, ← regroup256,
    ← Fin.sum_univ_eq_sum_range (fun l => (∑ j ∈ Finset.range 64, ext (row X r) (256 * j + l)) + ∑ j ∈ Finset.range 64, ext (row X r) (256 * j + (128 + l)))]
  refine Finset.sum_congr rfl fun l _ => ?_
  have hg : r.val / 8 < 16 := by omega
  rw [s1, stack_apply, s1g, half254, sum1_apply, sum1_apply]
  congr 1 <;> refine Finset.sum_congr rfl fun j hj => ?_ <;>
    rw [tile_apply X _ j hg (Finset.mem_range.1 hj), row_split]

/-- The lanes of the partial sums of squares add up to the row's sum of squares. -/
theorem s2_sum (r : Fin 128) : ∑ l : Fin 128, (s2 X (ix2 r l) : EReal) = ∑ k, row X r k * row X r k := by
  rw [← sum_ext (row X r) (fun z => z * z) (256 * 64) rfl, ← regroup256 (fun k => ext (row X r) k * ext (row X r) k),
    ← Fin.sum_univ_eq_sum_range (fun l => (∑ j ∈ Finset.range 64, ext (row X r) (256 * j + l) * ext (row X r) (256 * j + l))
      + ∑ j ∈ Finset.range 64, ext (row X r) (256 * j + (128 + l)) * ext (row X r) (256 * j + (128 + l)))]
  refine Finset.sum_congr rfl fun l _ => ?_
  have hg : r.val / 8 < 16 := by omega
  rw [s2, stack_apply, s2g, half255, sum2_apply, sum2_apply]
  congr 1 <;> refine Finset.sum_congr rfl fun j hj => ?_ <;>
    rw [tile_apply X _ j hg (Finset.mem_range.1 hj), row_split]

/-- The mean along the lanes is the row's mean. -/
theorem mus_apply (r l : Fin 128) : (mus X (ix2 r l) : EReal) = RowMath.mean (row X r) := by
  have h : (mus X (ix2 r l) : EReal) = (∑ x, s1 X (ix2 r x)) * Ideal.ofBits .f32 0x38800000#32 := by
    unfold mus
    pointwise [k0_pay260, k0_pay256]
  rw [h, s1_sum, RowMath.winv, RowMath.mean, RowMath.div16384]

/-- The centred squares of the first `n` chunks, at a lane. -/
theorem cen_apply (n : ℕ) (hn : n ≤ 128) (r l : Fin 128) :
    (cen X n (ix2 r l) : EReal) = ∑ j ∈ Finset.range n,
      (ext (row X r) (128 * j + l) - RowMath.mean (row X r)) * (ext (row X r) (128 * j + l) - RowMath.mean (row X r)) := by
  induction n with
  | zero => rw [Finset.sum_range_zero, cen]; pointwise [k0_pay262]
  | succ n ih =>
    have h : (cen X (n + 1) (ix2 r l) : EReal) = cen X n (ix2 r l) +
        (chunk X n (ix2 r l) - mus X (ix2 r l)) * (chunk X n (ix2 r l) - mus X (ix2 r l)) := by
      rw [cen]
      pointwise [k0_pay263]
    rw [h, ih (by omega), Finset.sum_range_succ, mus_apply, chunk_apply X n (by omega), ext_apply _ _ (by omega)]

/-- The lanes of the centred squares of all the chunks add up to the row's. -/
theorem cen_sum (n : ℕ) (hn : n ≤ 128) (hk : 128 * n = 16384) (r : Fin 128) :
    ∑ l : Fin 128, (cen X n (ix2 r l) : EReal)
      = ∑ k, (row X r k - RowMath.mean (row X r)) * (row X r k - RowMath.mean (row X r)) := by
  rw [← sum_ext (row X r) (fun z => (z - RowMath.mean (row X r)) * (z - RowMath.mean (row X r))) (128 * n) hk,
    ← regroup128 (fun k => (ext (row X r) k - RowMath.mean (row X r)) * (ext (row X r) k - RowMath.mean (row X r))),
    ← Fin.sum_univ_eq_sum_range (fun l => ∑ j ∈ Finset.range n,
      (ext (row X r) (128 * j + l) - RowMath.mean (row X r)) * (ext (row X r) (128 * j + l) - RowMath.mean (row X r)))]
  exact Finset.sum_congr rfl fun x _ => cen_apply X n hn r x

/-- If the test for cancellation fails, no row's difference of moments is below a sixteenth of its second moment. -/
theorem safe_of_canc (h : canc X ≠ 1#1) (r : Fin 128) :
    RowMath.msq (row X r) * ((1 / 16 : ℝ) : EReal) ≤
      RowMath.msq (row X r) - RowMath.mean (row X r) * RowMath.mean (row X r) := by
  have hv : k0_pay259 (F := Ideal) (s1 X) (s2 X) (ix3 0 0 0) = Finset.fold IntOp.maxsi (0x80000000#32)
      (fun x : Fin 128 × Fin 1 => if
        (∑ l, s2 X (ix2 x.1 l) : EReal) * Ideal.ofBits .f32 0x38800000#32 * Ideal.ofBits .f32 0x3D800000#32 ≤
          (∑ l, s2 X (ix2 x.1 l) : EReal) * Ideal.ofBits .f32 0x38800000#32 -
            (∑ l, s1 X (ix2 x.1 l) : EReal) * Ideal.ofBits .f32 0x38800000#32 *
              ((∑ l, s1 X (ix2 x.1 l) : EReal) * Ideal.ofBits .f32 0x38800000#32) then 0#32 else 1#32) Finset.univ := by
    pointwise [k0_pay259, k0_pay256, k0_pay257, k0_pay258]
  have hx : extractAt ![0, 0, 0] (k0_pay259 (F := Ideal) (s1 X) (s2 X)) inpos_S1x1x1_p0_0_0
      = k0_pay259 (F := Ideal) (s1 X) (s2 X) (ix3 0 0 0) := by pointwise []
  by_contra hc
  refine h ?_
  unfold canc
  rw [hx, hv]
  obtain ⟨-, hm, -⟩ := SortNet.fold_maxsi_spec (fun x : Fin 128 × Fin 1 => if
        (∑ l, s2 X (ix2 x.1 l) : EReal) * Ideal.ofBits .f32 0x38800000#32 * Ideal.ofBits .f32 0x3D800000#32 ≤
          (∑ l, s2 X (ix2 x.1 l) : EReal) * Ideal.ofBits .f32 0x38800000#32 -
            (∑ l, s1 X (ix2 x.1 l) : EReal) * Ideal.ofBits .f32 0x38800000#32 *
              ((∑ l, s1 X (ix2 x.1 l) : EReal) * Ideal.ofBits .f32 0x38800000#32) then 0#32 else 1#32) Finset.univ (0x80000000#32)
  have h1 := hm (r, 0) (Finset.mem_univ _)
  rw [if_neg (by
    simp only [s1_sum, s2_sum, RowMath.winv, RowMath.w16th]
    unfold RowMath.msq RowMath.mean at hc
    simp only [RowMath.div16384] at hc
    exact hc)] at h1
  generalize Finset.fold IntOp.maxsi _ _ _ = v at h1
  have h2 : IntOp.cmpi .sgt v 0#32 = 1#1 := by
    show BitVec.ofBool (BitVec.slt 0#32 v) = 1#1
    rw [BitVec.slt_iff_toInt_lt.2 (lt_of_lt_of_le (by decide) h1)]
    rfl
  show Scalar.cmpi .ne (Scalar.extui (IntOp.cmpi .sgt v 0#32)) 0#32 = 1#1
  rw [h2]
  rfl

/-- The reciprocal deviation from the centred squares of all the chunks is the row's. -/
theorem rdev_cen (n : ℕ) (hn : n ≤ 128) (hk : 128 * n = 16384) (r l : Fin 128) :
    (k0_pay264 (F := Ideal) (cen X n) (ix2 r l) : EReal) = Values.rdev (row X r) := by
  have e : (k0_pay264 (F := Ideal) (cen X n) (ix2 r l) : EReal) =
      Ideal.rsqrt ((∑ x, cen X n (ix2 r x)) * Ideal.ofBits .f32 0x38800000#32 + Ideal.ofBits .f32 0x3727C5AC#32) := by
    pointwise [k0_pay264]
  rw [e, cen_sum X n hn hk, Values.rdev, RowMath.cvar, RowMath.div16384, RowMath.winv]

/-- The reciprocal deviation along the lanes is the row's. -/
theorem rss_apply (r l : Fin 128) : (rss X (ix2 r l) : EReal) = Values.rdev (row X r) := by
  unfold rss
  split_ifs with h
  · exact rdev_cen X 128 (by omega) (by omega) r l
  · have e : (k0_pay261 (F := Ideal) (k0_pay258 (s1 X) (s2 X)) (ix2 r l) : EReal) =
        Ideal.rsqrt ((∑ x, s2 X (ix2 r x)) * Ideal.ofBits .f32 0x38800000#32 -
          (∑ x, s1 X (ix2 r x)) * Ideal.ofBits .f32 0x38800000#32 *
            ((∑ x, s1 X (ix2 r x)) * Ideal.ofBits .f32 0x38800000#32) + Ideal.ofBits .f32 0x3727C5AC#32) := by
      pointwise [k0_pay261, k0_pay258, k0_pay256, k0_pay257]
    rw [e, Values.rdev, ← RowMath.moments_eq _ (safe_of_canc X h r), s1_sum, s2_sum, RowMath.winv, RowMath.msq,
      RowMath.mean, RowMath.div16384, RowMath.div16384]

/-! ### The normalised chunks, the codes and the maxima -/

variable (H : Vec Ideal S1x16 .f32) (G B : Vec Ideal S1x16384 .f32)

/-- A row of weights. -/
def wrow (G : Vec Ideal S1x16384 .f32) (k : Fin 16384) : EReal := G (ix2 0 k)
/-- The history. -/
def hist (H : Vec Ideal S1x16 .f32) (k : Fin 16) : EReal := H (ix2 0 k)

theorem ychunk_apply (j : ℕ) (hj : j < 128) (r l : Fin 128) :
    (ychunk X G B j (ix2 r l) : EReal) = Values.norm (row X r) (wrow G) (wrow B) ⟨128 * j + l, by omega⟩ := by
  have e : (ychunk X G B j (ix2 r l) : EReal) =
      (chunk X j (ix2 r l) - mus X (ix2 r l)) * rss X (ix2 r l) * lane G j (ix2 0 l) + lane B j (ix2 0 l) := by
    unfold ychunk
    pointwise [k0_pay271]
  rw [e, chunk_apply X j hj, mus_apply, rss_apply, lane_apply G j hj, lane_apply B j hj]
  rfl

/-- The kernel's factor is the reciprocal of the scale. -/
theorem inv_apply (h : ScaleMath.InRange (Values.hmax (hist H))) :
    (Spec.inv H (ix2 0 0) : EReal) = ScaleMath.inv (Values.hmax (hist H)) := by
  rw [← ScaleMath.kernel_inv _ h]
  unfold Spec.inv Values.hmax hist ScaleMath.expo ScaleMath.count ScaleMath.quo
  pointwise [k0_pay253, k0_pay250, k0_pay251, k0_pay252]

/-- The kernel's scale is the scale. -/
theorem scale_apply (h : ScaleMath.InRange (Values.hmax (hist H))) :
    (k0_pay247 (F := Ideal) (k0_pay1 H) (ix2 0 0) : EReal) = ScaleMath.scale (Values.hmax (hist H)) := by
  rw [← ScaleMath.kernel_scale _ h]
  unfold Values.hmax hist ScaleMath.expo ScaleMath.count ScaleMath.quo
  pointwise [k0_pay247, k0_pay1]

theorem code_apply (h : ScaleMath.InRange (Values.hmax (hist H))) (j : ℕ) (hj : j < 128) (r l : Fin 128) :
    (code H X G B j (ix2 r l) : EReal) =
      Values.code (hist H) (Values.norm (row X r) (wrow G) (wrow B) ⟨128 * j + l, by omega⟩) := by
  have e : (code H X G B j (ix2 r l) : EReal) = min (Ideal.ofBits .f32 0x43E00000#32)
      (max (Ideal.ofBits .f32 0xC3E00000#32) (ychunk X G B j (ix2 r l) * Spec.inv H (ix2 0 0))) := by
    unfold code
    pointwise [k0_pay273]
  rw [e, ychunk_apply X G B j hj, inv_apply H h]
  rfl

theorem codeT_apply (h : ScaleMath.InRange (Values.hmax (hist H))) (j : ℕ) (hj : j < 128) (l r : Fin 128) :
    (codeT H X G B j (ix2 l r) : EReal) =
      Values.code (hist H) (Values.norm (row X r) (wrow G) (wrow B) ⟨128 * j + l, by omega⟩) := by
  rw [← code_apply X H G B h j hj]
  unfold codeT
  pointwise [k0_pay282]

/-- The means the block leaves. -/
theorem mu_out (l : Fin 128) : (k0_pay265 (F := Ideal) (mus X) (ix3 0 0 l) : EReal) = RowMath.mean (row X l) := by
  rw [← mus_apply X l 0]
  pointwise [k0_pay265]

/-- The reciprocal deviations the block leaves. -/
theorem rs_out (l : Fin 128) : (k0_pay266 (F := Ideal) (rss X) (ix3 0 0 l) : EReal) = Values.rdev (row X l) := by
  rw [← rss_apply X l 0]
  pointwise [k0_pay266]

theorem amaxStep_apply (M : FVec Ideal S8x128 .f32) (y : FVec Ideal S128x128 .f32) (s : Fin 8) (l : Fin 128) :
    (amaxStep M y (ix2 s l) : EReal) = max (M (ix2 s l)) (Finset.fold max (Ideal.ofBits .f32 0xFF800000#32)
      (fun x : Fin 16 => Values.abs (y (ix2 ⟨x * 8 + s, by omega⟩ l))) Finset.univ) := by
  unfold Values.abs
  pointwise [amaxStep]

/-- A bound of the running maxima after `n` chunks: a bound of what they were and of those chunks' entries. -/
theorem amaxAcc_le (M : FVec Ideal S8x128 .f32) (n : ℕ) (hn : n ≤ 128) (s : Fin 8) (l : Fin 128) (u : EReal) :
    (amaxAcc X G B M n (ix2 s l) : EReal) ≤ u ↔ (M (ix2 s l) : EReal) ≤ u ∧ ∀ j (hj : j < n) (x : Fin 16),
      Values.abs (Values.norm (row X ⟨x * 8 + s, by omega⟩) (wrow G) (wrow B) ⟨128 * j + l, by omega⟩) ≤ u := by
  induction n with
  | zero => rw [amaxAcc]; exact ⟨fun h => ⟨h, fun j hj => absurd hj (Nat.not_lt_zero j)⟩, fun h => h.1⟩
  | succ n ih =>
    rw [amaxAcc, amaxStep_apply, max_le_iff, ih (by omega), Finset.fold_max_le, Values.ninf]
    refine ⟨fun h => ⟨h.1.1, fun j hj x => ?_⟩, fun h => ⟨⟨h.1, fun j hj x => h.2 j (by omega) x⟩, bot_le, fun x _ => ?_⟩⟩
    · rcases Nat.lt_succ_iff_lt_or_eq.1 hj with hj' | rfl
      · exact h.1.2 j hj' x
      · have := h.2.2 x (Finset.mem_univ _)
        rwa [ychunk_apply X G B j (by omega)] at this
    · rw [ychunk_apply X G B n (by omega)]
      exact h.2 n (Nat.lt_succ_self n) x

/-- A bound of the total maximum: a bound of every running maximum. -/
theorem total_le (M : FVec Ideal S8x128 .f32) (u : EReal) :
    (k0_pay286 (F := Ideal) M (ix2 0 0) : EReal) ≤ u ↔ ∀ (s : Fin 8) (l : Fin 128), (M (ix2 s l) : EReal) ≤ u := by
  have e : (k0_pay286 (F := Ideal) M (ix2 0 0) : EReal) =
      Finset.fold max (Ideal.ofBits .f32 0xFF800000#32) (fun x : Fin 8 × Fin 128 => M (ix2 x.1 x.2)) Finset.univ := by
    pointwise [k0_pay286]
  rw [e, Finset.fold_max_le, Values.ninf]
  exact ⟨fun h s l => h.2 (s, l) (Finset.mem_univ _), fun h => ⟨bot_le, fun x _ => h x.1 x.2⟩⟩

end Cert.KernelIdeal.Block
-- ==== Proof.KerRun.lean ====
/-
  THE KERNEL'S RUN over the extended reals: its six result arrays hold the values of Values.lean of its argument arrays,
  which are unchanged, when the history is in range.
-/
module

public import proofs.«01_k».proof.Proof.RunIdeal
public import proofs.«01_k».proof.Proof.BlockIdeal
public import Idealize.ShloMosaic.Lib.Pipeline.ValueKit
public import Idealize.ShloMosaic.Lib.Pipeline.ArrRel

@[expose] public section

set_option maxRecDepth 16384

noncomputable section

open Idealize.ShloMosaic Idealize.ShloMosaic.TcCoe Idealize.SL.Sem
open Idealize.ShloMosaic.Pipeline (RDat)
open Cert.KernelIdeal Cert.KernelIdeal.Gen Cert.KernelIdeal.Spec Cert.KernelIdeal.Body Cert.KernelIdeal.Run Cert.KernelIdeal.Block Cert.Blk

namespace Cert.KernelIdeal.Ker

variable (m : (ℓ : Loc nD τ sig) → Buf (Elt Ideal) ℓ) (ρ : Dev nD → PrngReg)

/-- The input's rows: row `r` is row `r % 1024` of batch `r / 1024`. -/
def xin (c : Dev nD) (r : Fin 2048) (k : Fin 16384) : EReal :=
  m ((c : Thread nD τ).loc main_arg0) (ix3 (⟨r / 1024, by omega⟩ : Fin 2) (⟨r % 1024, by omega⟩ : Fin 1024) k)
/-- The weights. -/
def gin (c : Dev nD) (k : Fin 16384) : EReal := m ((c : Thread nD τ).loc main_arg1) (ix1 k)
/-- The shifts. -/
def bin (c : Dev nD) (k : Fin 16384) : EReal := m ((c : Thread nD τ).loc main_arg2) (ix1 k)
/-- The history. -/
def hin (c : Dev nD) (k : Fin 16) : EReal := m ((c : Thread nD τ).loc main_arg3) (ix1 k)

/-! ### Where the blocks lie -/

theorem N16 (t : Fin cfg0.N) : t.val < 16 := t.isLt
theorem i00 : ∀ t : Fin cfg0.N, win0_0.index t 0 = 0 := by decide +kernel
theorem i01 : ∀ t : Fin cfg0.N, win0_0.index t 1 = 0 := by decide +kernel
theorem i10 : ∀ t : Fin cfg0.N, win0_1.index t 0 = 0 := by decide +kernel
theorem i11 : ∀ t : Fin cfg0.N, win0_1.index t 1 = 0 := by decide +kernel
theorem i20 : ∀ t : Fin cfg0.N, win0_2.index t 0 = 0 := by decide +kernel
theorem i21 : ∀ t : Fin cfg0.N, win0_2.index t 1 = 0 := by decide +kernel
theorem i30 : ∀ t : Fin cfg0.N, win0_3.index t 0 = t.val := by decide +kernel
theorem i31 : ∀ t : Fin cfg0.N, win0_3.index t 1 = 0 := by decide +kernel
theorem i40 : ∀ t : Fin cfg0.N, win0_4.index t 0 = t.val := by decide +kernel
theorem i41 : ∀ t : Fin cfg0.N, win0_4.index t 1 = 0 := by decide +kernel
theorem i50 : ∀ t : Fin cfg0.N, win0_5.index t 0 = 0 := by decide +kernel
theorem i51 : ∀ t : Fin cfg0.N, win0_5.index t 1 = t.val := by decide +kernel
theorem i80 : ∀ t : Fin cfg0.N, win0_8.index t 0 = t.val := by decide +kernel
theorem i81 : ∀ t : Fin cfg0.N, win0_8.index t 1 = 0 := by decide +kernel
theorem i82 : ∀ t : Fin cfg0.N, win0_8.index t 2 = 0 := by decide +kernel
theorem i90 : ∀ t : Fin cfg0.N, win0_9.index t 0 = t.val := by decide +kernel
theorem i91 : ∀ t : Fin cfg0.N, win0_9.index t 1 = 0 := by decide +kernel
theorem i92 : ∀ t : Fin cfg0.N, win0_9.index t 2 = 0 := by decide +kernel

/-- The blocks grid point `t` is given: the whole history and weights, and rows `128 t` to `128 t + 127`. -/
theorem h_in (c : Dev nD) (t : Fin cfg0.N) : hist (hB m c t) = hin m c := by
  funext k
  unfold hin hist
  blk_simp [iblk]
  entry_read
  pointwise []
  blk_ext [i00 t, i01 t]

theorem g_in (c : Dev nD) (t : Fin cfg0.N) : wrow (gB m c t) = gin m c := by
  funext k
  unfold gin wrow
  blk_simp [iblk]
  entry_read
  pointwise []
  blk_ext [i10 t, i11 t]

theorem b_in (c : Dev nD) (t : Fin cfg0.N) : wrow (bB m c t) = bin m c := by
  funext k
  unfold bin wrow
  blk_simp [iblk]
  entry_read
  pointwise []
  blk_ext [i20 t, i21 t]

theorem row_in (c : Dev nD) (t : Fin cfg0.N) (r : Fin 128) :
    row (xB m c t) r = xin m c ⟨t.val * 128 + r.val, by have := N16 t; omega⟩ := by
  funext k
  unfold xin row
  blk_simp [iblk]
  entry_read
  pointwise []
  blk_ext [i30 t, i31 t]

/-! ### The results -/

/-- The codes. -/
def out4 (c : Dev nD) : Vec Ideal S2048x16384 .fp8e4m3 := fun i =>
  Values.code (hin m c) (Values.norm (xin m c (i 0)) (gin m c) (bin m c) (i 1))
/-- The codes transposed. -/
def out5 (c : Dev nD) : Vec Ideal S16384x2048 .fp8e4m3 := fun i =>
  Values.code (hin m c) (Values.norm (xin m c (i 1)) (gin m c) (bin m c) (i 0))
/-- The scale. -/
def out6 (c : Dev nD) : Vec Ideal S1x1 .f32 := fun _ => ScaleMath.scale (Values.hmax (hin m c))
/-- The largest absolute value. -/
def out7 (c : Dev nD) : Vec Ideal S1x1 .f32 := fun _ => Values.amax (xin m c) (gin m c) (bin m c)
/-- The means: row `128 t + l` at `(t, 0, l)`. -/
def out8 (c : Dev nD) : Vec Ideal S16x1x128 .f32 := fun i =>
  RowMath.mean (xin m c ⟨(i 0).val * 128 + (i 2).val, by
    have h0 : (i 0).val < 16 := (i 0).isLt; have h2 : (i 2).val < 128 := (i 2).isLt; omega⟩)
/-- The reciprocal deviations. -/
def out9 (c : Dev nD) : Vec Ideal S16x1x128 .f32 := fun i =>
  Values.rdev (xin m c ⟨(i 0).val * 128 + (i 2).val, by
    have h0 : (i 0).val < 16 := (i 0).isLt; have h2 : (i 2).val < 128 := (i 2).isLt; omega⟩)

/-- A block of codes, at an element. -/
theorem codes_apply (H : Vec Ideal S1x16 .f32) (G B : Vec Ideal S1x16384 .f32) (X : Vec Ideal S128x16384 .bf16) (Z : Vec Ideal S128x16384 .fp8e4m3)
    (hZ : Codes H G B X 128 Z) (h : ScaleMath.InRange (Values.hmax (hist H))) (r : Fin 128) (k : Fin 16384) :
    (Z (ix2 r k) : EReal) = Values.code (hist H) (Values.norm (row X r) (wrow G) (wrow B) k) := by
  have hk : k.val / 128 < 128 := by omega
  have e := congrFun (hZ (k.val / 128) hk) (ix2 r (⟨k.val % 128, by omega⟩ : Fin 128))
  rw [blk_apply _ _ _ _ (fun a => by
    match a with
    | ⟨0, _⟩ => show 0 + 128 ≤ 128; omega
    | ⟨1, _⟩ => show 128 * (k.val / 128) + 128 ≤ 16384; omega)] at e
  have ek : (⟨128 * (k.val / 128) + k.val % 128, by omega⟩ : Fin 16384) = k := Fin.ext (by show 128 * (k.val / 128) + k.val % 128 = k.val; omega)
  refine Eq.trans (congrArg Z (funext fun a => ?_)) (e.trans ((code_apply X H G B h _ hk _ _).trans ?_))
  · match a with
    | ⟨0, _⟩ => exact Fin.ext (Nat.zero_add _).symm
    | ⟨1, _⟩ => exact ek.symm
  · exact congrArg (fun q => Values.code (hist H) (Values.norm (row X r) (wrow G) (wrow B) q)) ek

/-- A block of transposed codes, at an element. -/
theorem codesT_apply (H : Vec Ideal S1x16 .f32) (G B : Vec Ideal S1x16384 .f32) (X : Vec Ideal S128x16384 .bf16) (Z : Vec Ideal S16384x128 .fp8e4m3)
    (hZ : CodesT H G B X 128 Z) (h : ScaleMath.InRange (Values.hmax (hist H))) (k : Fin 16384) (r : Fin 128) :
    (Z (ix2 k r) : EReal) = Values.code (hist H) (Values.norm (row X r) (wrow G) (wrow B) k) := by
  have hk : k.val / 128 < 128 := by omega
  have e := congrFun (hZ (k.val / 128) hk) (ix2 (⟨k.val % 128, by omega⟩ : Fin 128) r)
  rw [blk_apply _ _ _ _ (fun a => by
    match a with
    | ⟨0, _⟩ => show 128 * (k.val / 128) + 128 ≤ 16384; omega
    | ⟨1, _⟩ => show 0 + 128 ≤ 128; omega)] at e
  have ek : (⟨128 * (k.val / 128) + k.val % 128, by omega⟩ : Fin 16384) = k := Fin.ext (by show 128 * (k.val / 128) + k.val % 128 = k.val; omega)
  refine Eq.trans (congrArg Z (funext fun a => ?_)) (e.trans ((codeT_apply X H G B h _ hk _ _).trans ?_))
  · match a with
    | ⟨0, _⟩ => exact ek.symm
    | ⟨1, _⟩ => exact Fin.ext (Nat.zero_add _).symm
  · exact congrArg (fun q => Values.code (hist H) (Values.norm (row X r) (wrow G) (wrow B) q)) ek

/-! ### The maximum -/

/-- A bound of the running maxima before point `n`: a bound of zero and of every entry of the rows so far. -/
theorem maxes_le (c : Dev nD) (n : ℕ) (hn : n ≤ 16) (s : Fin 8) (l : Fin 128) (u : EReal) :
    (maxes m c n (ix2 s l) : EReal) ≤ u ↔ 0 ≤ u ∧ ∀ t (ht : t < n) j (hj : j < 128) (x : Fin 16),
      Values.abs (Values.norm (xin m c ⟨t * 128 + (x * 8 + s), by omega⟩) (gin m c) (bin m c) ⟨128 * j + l, by omega⟩) ≤ u := by
  induction n with
  | zero =>
    have e : (maxes m c 0 (ix2 s l) : EReal) = 0 := by
      rw [maxes]
      pointwise [k0_pay248]
    rw [e]
    exact ⟨fun h => ⟨h, fun t ht => absurd ht (Nat.not_lt_zero t)⟩, fun h => h.1⟩
  | succ n ih =>
    have hN : n < cfg0.N := by show n < 16; omega
    have e : (maxes m c (n + 1) (ix2 s l) : EReal) =
        amaxAcc (xB m c ⟨n, hN⟩) (gB m c ⟨n, hN⟩) (bB m c ⟨n, hN⟩) (maxes m c n) 128 (ix2 s l) := by
      rw [maxes_succ m c ⟨n, hN⟩]
      generalize amaxAcc (F := Ideal) _ _ _ _ _ = M
      pointwise [k0_pay281]
    rw [e, amaxAcc_le _ _ _ _ 128 (by omega), ih (by omega)]
    simp only [row_in, g_in, b_in]
    refine ⟨fun h => ⟨h.1.1, fun t ht j hj x => ?_⟩, fun h => ⟨⟨h.1, fun t ht => h.2 t (by omega)⟩, fun j hj x => h.2 n (by omega) j hj x⟩⟩
    rcases Nat.lt_succ_iff_lt_or_eq.1 ht with ht' | rfl
    · exact h.1.2 t ht' j hj x
    · exact h.2 j hj x

/-- The total maximum after the last point is the largest absolute value. -/
theorem total_eq (c : Dev nD) :
    (k0_pay286 (F := Ideal) (maxes m c 16) (ix2 0 0) : EReal) = Values.amax (xin m c) (gin m c) (bin m c) := by
  refine eq_of_forall_ge_iff fun u => ?_
  rw [total_le, Values.amax]
  simp only [iSup_le_iff, maxes_le m c 16 le_rfl]
  refine ⟨fun h r k => ?_, fun h s l => ⟨(Values.abs_nonneg _).trans (h 0 0), fun t ht j hj x => h _ _⟩⟩
  have hr := r.isLt
  have hk := k.isLt
  have h' := (h ⟨r.val % 8, by omega⟩ ⟨k.val % 128, by omega⟩).2 (r.val / 128) (by omega) (k.val / 128) (by omega)
    ⟨r.val % 128 / 8, by omega⟩
  have er : (⟨r.val / 128 * 128 + (r.val % 128 / 8 * 8 + r.val % 8), by omega⟩ : Fin 2048) = r := Fin.ext (by
    show r.val / 128 * 128 + (r.val % 128 / 8 * 8 + r.val % 8) = r.val; omega)
  have ek : (⟨128 * (k.val / 128) + k.val % 128, by omega⟩ : Fin 16384) = k := Fin.ext (by
    show 128 * (k.val / 128) + k.val % 128 = k.val; omega)
  simp only [er, ek] at h'
  exact h'

/-! ### The arrays -/

/-- The scale's buffer, left by the first point, is kept by the others. -/
theorem scale_kept (c : Dev nD) (n : ℕ) (hn : n < cfg0.N) (X : S1x1.Idx → Elt Ideal .f32) (h : (rdat m c).Leaves 6 ⟨n, hn⟩ X) :
    X = k0_pay247 (F := Ideal) (k0_pay1 (hB m c t0_0)) := by
  induction n generalizing X with
  | zero =>
    obtain ⟨Y, -, hY⟩ := h
    exact hY
  | succ n ih =>
    obtain ⟨Y, hF, hY⟩ := h
    have hY' : X = Y := hY
    have hf : ∀ t : Fin cfg0.N, (cfg0.win 6).fetch t = false := by decide +kernel
    rw [RDat.finds_of_pos _ (hf _) (Nat.succ_ne_zero n)] at hF
    rcases hF with hF | ⟨Z, hZ, hZY⟩
    · have h15 : n % 16 = 15 := (flush0_6 ⟨n, by omega⟩).1 hF
      have h16 : n + 1 < 16 := hn
      omega
    · rw [hY']
      exact ih (by omega) Y ⟨Z, hZ, hZY⟩

variable (c : Dev nD) (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

theorem final4 (h : ScaleMath.InRange (Values.hmax (hin m c))) :
    ((rdat m c).withAfter after).arrAt 4 cfg0.N = out4 m c := by
  refine ((rdat m c).withAfter after).arrAt_eq_of_covers 4 _ (by decide +kernel) fun t hf (y : S128x16384.Idx) => ?_
  obtain ⟨Y, -, hY⟩ := hL 4 t hf
  have hc : Codes (hB m c t) (gB m c t) (bB m c t) (xB m c t) 128 (after 4 t) := hY
  obtain ⟨r, k, rfl⟩ : ∃ (r : Fin 128) (k : Fin 16384), y = ix2 r k := ⟨y 0, y 1, eq_ix2 y⟩
  blk_simp
  have he : (win0_4.blk t).view.emb (ix2 r k) = ix2 (⟨t.val * 128 + r.val, by have := N16 t; omega⟩ : Fin 2048) k := by
    blk_ext [i40 t, i41 t]
  rw [he]
  refine (codes_apply _ _ _ _ _ hc (by rw [h_in]; exact h) r k).trans ?_
  rw [row_in, g_in, b_in, h_in]
  rfl

theorem final5 (h : ScaleMath.InRange (Values.hmax (hin m c))) :
    ((rdat m c).withAfter after).arrAt 5 cfg0.N = out5 m c := by
  refine ((rdat m c).withAfter after).arrAt_eq_of_covers 5 _ (by decide +kernel) fun t hf (y : S16384x128.Idx) => ?_
  obtain ⟨Y, -, hY⟩ := hL 5 t hf
  have hc : CodesT (hB m c t) (gB m c t) (bB m c t) (xB m c t) 128 (after 5 t) := hY
  obtain ⟨k, r, rfl⟩ : ∃ (k : Fin 16384) (r : Fin 128), y = ix2 k r := ⟨y 0, y 1, eq_ix2 y⟩
  blk_simp
  have he : (win0_5.blk t).view.emb (ix2 k r) = ix2 k (⟨t.val * 128 + r.val, by have := N16 t; omega⟩ : Fin 2048) := by
    blk_ext [i50 t, i51 t]
  rw [he]
  refine (codesT_apply _ _ _ _ _ hc (by rw [h_in]; exact h) k r).trans ?_
  rw [row_in, g_in, b_in, h_in]
  rfl

theorem final6 (h : ScaleMath.InRange (Values.hmax (hin m c))) :
    ((rdat m c).withAfter after).arrAt 6 cfg0.N = out6 m c := by
  refine ((rdat m c).withAfter after).arrAt_eq_of_after_last 6 t0_15 (by decide +kernel) _ fun (j : S1x1.Idx) => ?_
  have hc := scale_kept m c 15 (by decide) (after 6 t0_15) (hL 6 t0_15 ((flush0_6 t0_15).2 rfl))
  blk_simp
  show after 6 t0_15 j = _
  rw [hc, eq_ix2 j, show j 0 = (0 : Fin 1) from Subsingleton.elim (α := Fin 1) _ _,
    show j 1 = (0 : Fin 1) from Subsingleton.elim (α := Fin 1) _ _]
  refine (scale_apply _ (by rw [h_in]; exact h)).trans ?_
  rw [h_in]
  rfl

theorem final7 : ((rdat m c).withAfter after).arrAt 7 cfg0.N = out7 m c := by
  refine ((rdat m c).withAfter after).arrAt_eq_of_after_last 7 t0_15 (by decide +kernel) _ fun (j : S1x1.Idx) => ?_
  obtain ⟨Y, -, hY⟩ := hL 7 t0_15 ((flush0_7 t0_15).2 rfl)
  have hc : after 7 t0_15 = k0_pay286 (maxes m c 16) := hY
  blk_simp
  show after 7 t0_15 j = _
  rw [hc, eq_ix2 j, show j 0 = (0 : Fin 1) from Subsingleton.elim (α := Fin 1) _ _,
    show j 1 = (0 : Fin 1) from Subsingleton.elim (α := Fin 1) _ _]
  exact total_eq m c

theorem final8 : ((rdat m c).withAfter after).arrAt 8 cfg0.N = out8 m c := by
  refine ((rdat m c).withAfter after).arrAt_eq_of_covers 8 _ (by decide +kernel) fun t hf (y : S1x1x128.Idx) => ?_
  obtain ⟨Y, -, hY⟩ := hL 8 t hf
  have hc : after 8 t = k0_pay265 (mus (xB m c t)) := hY
  obtain ⟨l, rfl⟩ : ∃ l : Fin 128, y = ix3 (0 : Fin 1) (0 : Fin 1) l := ⟨y 2, by
    rw [eq_ix3 y, show y 0 = (0 : Fin 1) from Subsingleton.elim (α := Fin 1) _ _,
      show y 1 = (0 : Fin 1) from Subsingleton.elim (α := Fin 1) _ _]
    rfl⟩
  blk_simp
  have he : (win0_8.blk t).view.emb (ix3 (0 : Fin 1) (0 : Fin 1) l) = ix3 (⟨t.val, N16 t⟩ : Fin 16) (0 : Fin 1) l := by
    blk_ext [i80 t, i81 t, i82 t]
  rw [he]
  show (after 8 t (ix3 (0 : Fin 1) (0 : Fin 1) l) : EReal) = _
  rw [hc]
  refine (mu_out _ l).trans ?_
  rw [row_in]
  rfl

theorem final9 : ((rdat m c).withAfter after).arrAt 9 cfg0.N = out9 m c := by
  refine ((rdat m c).withAfter after).arrAt_eq_of_covers 9 _ (by decide +kernel) fun t hf (y : S1x1x128.Idx) => ?_
  obtain ⟨Y, -, hY⟩ := hL 9 t hf
  have hc : after 9 t = k0_pay266 (rss (xB m c t)) := hY
  obtain ⟨l, rfl⟩ : ∃ l : Fin 128, y = ix3 (0 : Fin 1) (0 : Fin 1) l := ⟨y 2, by
    rw [eq_ix3 y, show y 0 = (0 : Fin 1) from Subsingleton.elim (α := Fin 1) _ _,
      show y 1 = (0 : Fin 1) from Subsingleton.elim (α := Fin 1) _ _]
    rfl⟩
  blk_simp
  have he : (win0_9.blk t).view.emb (ix3 (0 : Fin 1) (0 : Fin 1) l) = ix3 (⟨t.val, N16 t⟩ : Fin 16) (0 : Fin 1) l := by
    blk_ext [i90 t, i91 t, i92 t]
  rw [he]
  show (after 9 t (ix3 (0 : Fin 1) (0 : Fin 1) l) : EReal) = _
  rw [hc]
  refine (rs_out _ l).trans ?_
  rw [row_in]
  rfl

omit hL in
/-- The kernel runs, and every final state has the six values in its result arrays and the arguments unchanged, when the
    greatest entry of the history is in range. -/
theorem run (hr : ∀ c, ScaleMath.InRange (Values.hmax (hin m c))) :
    θ_run defs (onTc (τ := τ) (main (F := Ideal))) ⟨m, fun _ => 0, ρ⟩ (fun r => ∀ c : Dev nD,
      r.2.mem ((c.tc : Thread nD τ).loc main_v4_0) = out4 m c
      ∧ r.2.mem ((c.tc : Thread nD τ).loc main_v4_1) = out5 m c
      ∧ r.2.mem ((c.tc : Thread nD τ).loc main_v4_2) = out6 m c
      ∧ r.2.mem ((c.tc : Thread nD τ).loc main_v4_3) = out7 m c
      ∧ r.2.mem ((c.tc : Thread nD τ).loc main_v4_4) = out8 m c
      ∧ r.2.mem ((c.tc : Thread nD τ).loc main_v4_5) = out9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    obtain ⟨after, hL, hA⟩ := RDat.FramePost.exists_exact h.1 c
    exact ⟨(hA 4).trans (final4 m c after hL (hr c)), (hA 5).trans (final5 m c after hL (hr c)),
      (hA 6).trans (final6 m c after hL (hr c)), (hA 7).trans (final7 m c after hL),
      (hA 8).trans (final8 m c after hL), (hA 9).trans (final9 m c after hL),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (Run.run m ρ)

end Cert.KernelIdeal.Ker
-- ==== Proof.RefIdeal.lean ====
/-
  THE REFERENCE'S RESULTS, ELEMENT BY ELEMENT, over the extended reals: its six arrays hold the values of Values.lean.
-/
module

public import proofs.«01_k».proof.Proof.Gen.ReferenceIdeal.Frame
public import proofs.«01_k».proof.Proof.Values
public import Idealize.ShloMosaic.Lib.Pipeline.Value
public import Idealize.ShloMosaic.Lib.Pointwise

@[expose] public section

set_option maxRecDepth 16384

noncomputable section

open Idealize.ShloMosaic Cert.ReferenceIdeal.Gen

namespace Cert.ReferenceIdeal.Ref

/-! ### The body's stores -/

variable (X : Vec Ideal S2048x16384 .bf16) (G B : Vec Ideal S1x16384 .f32) (H : Vec Ideal S1x16 .f32)

/-- Row `r` of the input. -/
def row (r : Fin 2048) (k : Fin 16384) : EReal := X (ix2 r k)
/-- A row of weights. -/
def wrow (k : Fin 16384) : EReal := G (ix2 0 k)
/-- The history. -/
def hist (k : Fin 16) : EReal := H (ix2 0 k)

theorem mean_apply (r : Fin 2048) : (k0_pay7 X (ix2 r 0) : EReal) = RowMath.mean (row X r) := by
  unfold RowMath.mean row
  rw [← RowMath.w16384]
  pointwise [k0_pay7, k0_pay4]

theorem cen_apply (r : Fin 2048) (k : Fin 16384) :
    (k0_pay8 X (ix2 r k) : EReal) = row X r k - RowMath.mean (row X r) := by
  have e : (k0_pay8 X (ix2 r k) : EReal) = X (ix2 r k) - k0_pay7 X (ix2 r 0) := by
    pointwise [k0_pay8, k0_pay4]
  rw [e, mean_apply]
  rfl

theorem rdev_apply (r : Fin 2048) : (k0_pay9 X (ix2 r 0) : EReal) = Values.rdev (row X r) := by
  have e : (k0_pay9 X (ix2 r 0) : EReal) = Ideal.rsqrt (Ideal.div (∑ k, k0_pay8 X (ix2 r k) * k0_pay8 X (ix2 r k))
      (Ideal.ofBits .f32 0x46800000#32) + Ideal.ofBits .f32 0x3727C5AC#32) := by
    pointwise [k0_pay9]
  rw [e, RowMath.w16384]
  simp only [cen_apply]
  rfl

theorem norm_apply (r : Fin 2048) (k : Fin 16384) :
    (k0_pay10 X G B (ix2 r k) : EReal) = Values.norm (row X r) (wrow G) (wrow B) k := by
  have e : (k0_pay10 X G B (ix2 r k) : EReal) =
      k0_pay8 X (ix2 r k) * k0_pay9 X (ix2 r 0) * G (ix2 0 k) + B (ix2 0 k) := by
    pointwise [k0_pay10, k0_pay5, k0_pay6]
  rw [e, cen_apply, rdev_apply]
  rfl

theorem scale_apply : (k0_pay13 (F := Ideal) (k0_pay11 H) (k0_pay12 H) (ix2 0 0) : EReal) = ScaleMath.scale (Values.hmax (hist H)) := by
  unfold ScaleMath.scale ScaleMath.cand ScaleMath.quo Values.hmax hist
  pointwise [k0_pay13, k0_pay11, k0_pay12]

theorem inv_apply : (k0_pay14 (F := Ideal) (k0_pay11 H) (k0_pay12 H) (ix2 0 0) : EReal) = ScaleMath.inv (Values.hmax (hist H)) := by
  rw [ScaleMath.inv, ← scale_apply]
  generalize k0_pay11 H = a
  generalize k0_pay12 H = b
  pointwise [k0_pay14]

theorem code_apply (r : Fin 2048) (k : Fin 16384) :
    (k0_pay15 (F := Ideal) (k0_pay10 X G B) (k0_pay11 H) (k0_pay12 H) (ix2 r k) : EReal)
      = Values.code (hist H) (Values.norm (row X r) (wrow G) (wrow B) k) := by
  rw [← norm_apply, Values.code, ← inv_apply]
  generalize k0_pay11 H = a
  generalize k0_pay12 H = b
  generalize k0_pay10 X G B = y
  pointwise [k0_pay15]

theorem codeT_apply (k : Fin 16384) (r : Fin 2048) :
    (k0_pay16 (F := Ideal) (k0_pay4 X) (k0_pay5 G) (k0_pay6 B) (k0_pay7 X) (k0_pay9 X) (k0_pay11 H) (k0_pay12 H) (ix2 k r) : EReal)
      = Values.code (hist H) (Values.norm (row X r) (wrow G) (wrow B) k) := by
  rw [Values.norm, ← mean_apply, ← rdev_apply, Values.code, ← inv_apply]
  generalize k0_pay11 H = a
  generalize k0_pay12 H = b
  generalize k0_pay7 X = u
  generalize k0_pay9 X = v
  unfold row wrow
  pointwise [k0_pay16, k0_pay4, k0_pay5, k0_pay6]

/-- A bound of the maximum over pairs is a bound of every entry. -/
theorem fold_pairs_le {α β : Type} [Fintype α] [Fintype β] (f : α × β → EReal) (u : EReal) :
    Finset.fold max ⊥ f Finset.univ ≤ u ↔ ∀ a b, f (a, b) ≤ u := by
  rw [Finset.fold_max_le]
  exact ⟨fun h a b => h.2 (a, b) (Finset.mem_univ _), fun h => ⟨bot_le, fun x _ => h x.1 x.2⟩⟩

theorem amax_apply :
    (k0_pay1 (F := Ideal) (k0_pay17 (k0_pay10 X G B)) (ix2 0 0) : EReal) = Values.amax (row X) (wrow G) (wrow B) := by
  have e : (k0_pay1 (F := Ideal) (k0_pay17 (k0_pay10 X G B)) (ix2 0 0) : EReal) =
      Finset.fold max (Ideal.ofBits .f32 0xFF800000#32)
        (fun x : Fin 2048 × Fin 16384 => Values.abs (k0_pay10 X G B (ix2 x.1 x.2))) Finset.univ := by
    unfold Values.abs
    generalize k0_pay10 X G B = y
    pointwise [k0_pay1, k0_pay17]
  rw [e, Values.ninf]
  refine eq_of_forall_ge_iff fun u => ?_
  rw [fold_pairs_le, Values.amax, iSup_le_iff]
  simp only [iSup_le_iff, norm_apply]

theorem mu_out (t : Fin 16) (l : Fin 128) :
    (k0_pay2 (k0_pay7 X) (ix3 t 0 l) : EReal) = RowMath.mean (row X ⟨t * 128 + l, by omega⟩) := by
  rw [← mean_apply]
  generalize k0_pay7 X = u
  pointwise [k0_pay2]

theorem rs_out (t : Fin 16) (l : Fin 128) :
    (k0_pay3 (k0_pay9 X) (ix3 t 0 l) : EReal) = Values.rdev (row X ⟨t * 128 + l, by omega⟩) := by
  rw [← rdev_apply]
  generalize k0_pay9 X = u
  pointwise [k0_pay3]

end Cert.ReferenceIdeal.Ref
-- ==== Proof.RefRun.lean ====
/-
  THE REFERENCE'S RUN: its six result arrays hold the values of Values.lean of its argument arrays, which are unchanged.
-/
module

public import proofs.«01_k».proof.Proof.RefIdeal
public import Idealize.ShloMosaic.Lib.Pipeline.ValueKit

@[expose] public section

set_option maxRecDepth 16384

noncomputable section

open Idealize.ShloMosaic Idealize.ShloMosaic.TcCoe Idealize.SL.Sem Cert.ReferenceIdeal Cert.ReferenceIdeal.Gen

namespace Cert.ReferenceIdeal.Ref

variable (m : (ℓ : Loc nD τ sig) → Buf (Elt Ideal) ℓ) (ρ : Dev nD → PrngReg)

/-- The input's rows: row `r` is row `r % 1024` of batch `r / 1024`. -/
def xin (c : Dev nD) (r : Fin 2048) (k : Fin 16384) : EReal :=
  m ((c : Thread nD τ).loc main_arg0) (ix3 (⟨r / 1024, by omega⟩ : Fin 2) (⟨r % 1024, by omega⟩ : Fin 1024) k)
/-- The weights. -/
def gin (c : Dev nD) (k : Fin 16384) : EReal := m ((c : Thread nD τ).loc main_arg1) (ix1 k)
/-- The shifts. -/
def bin (c : Dev nD) (k : Fin 16384) : EReal := m ((c : Thread nD τ).loc main_arg2) (ix1 k)
/-- The history. -/
def hin (c : Dev nD) (k : Fin 16) : EReal := m ((c : Thread nD τ).loc main_arg3) (ix1 k)

/-- The four blocks the body is given are the arguments. -/
theorem row_in (c : Dev nD) (t : Fin cfg0.N) (r : Fin 2048) : row (iblk m c 0 t) r = xin m c r := by
  obtain rfl := fin_N0 t
  funext k
  unfold xin row
  blk_simp [iblk]
  entry_read
  pointwise []
  blk_ext [show win0_0.index t0_0 0 = 0 from rfl, show win0_0.index t0_0 1 = 0 from rfl]

theorem g_in (c : Dev nD) (t : Fin cfg0.N) : wrow (iblk m c 1 t) = gin m c := by
  obtain rfl := fin_N0 t
  funext k
  unfold gin wrow
  blk_simp [iblk]
  entry_read
  pointwise []
  blk_ext [show win0_1.index t0_0 0 = 0 from rfl, show win0_1.index t0_0 1 = 0 from rfl]

theorem b_in (c : Dev nD) (t : Fin cfg0.N) : wrow (iblk m c 2 t) = bin m c := by
  obtain rfl := fin_N0 t
  funext k
  unfold bin wrow
  blk_simp [iblk]
  entry_read
  pointwise []
  blk_ext [show win0_2.index t0_0 0 = 0 from rfl, show win0_2.index t0_0 1 = 0 from rfl]

theorem h_in (c : Dev nD) (t : Fin cfg0.N) : hist (iblk m c 3 t) = hin m c := by
  obtain rfl := fin_N0 t
  funext k
  unfold hin hist
  blk_simp [iblk]
  entry_read
  pointwise []
  blk_ext [show win0_3.index t0_0 0 = 0 from rfl, show win0_3.index t0_0 1 = 0 from rfl]

theorem hz : (![0, 0] : Fin 2 → Nat) = fun _ => 0 := funext fun a => by fin_cases a <;> rfl

/-- The body loads its blocks whole. -/
theorem ld_x (x : Vec Ideal S2048x16384 .bf16) : View.ld x r0_0 = x := by
  unfold r0_0
  rw [View.ld_unit_zero hz]
theorem ld_w (x : Vec Ideal S1x16384 .f32) : View.ld x r0_1 = x := by
  unfold r0_1
  rw [View.ld_unit_zero hz]
theorem ld_h (x : Vec Ideal S1x16 .f32) : View.ld x r0_2 = x := by
  unfold r0_2
  rw [View.ld_unit_zero hz]

/-- The codes. -/
def out4 (c : Dev nD) : Vec Ideal S2048x16384 .fp8e4m3 := fun i =>
  Values.code (hin m c) (Values.norm (xin m c (i 0)) (gin m c) (bin m c) (i 1))
/-- The codes transposed. -/
def out5 (c : Dev nD) : Vec Ideal S16384x2048 .fp8e4m3 := fun i =>
  Values.code (hin m c) (Values.norm (xin m c (i 1)) (gin m c) (bin m c) (i 0))
/-- The scale. -/
def out6 (c : Dev nD) : Vec Ideal S1x1 .f32 := fun _ => ScaleMath.scale (Values.hmax (hin m c))
/-- The largest absolute value. -/
def out7 (c : Dev nD) : Vec Ideal S1x1 .f32 := fun _ => Values.amax (xin m c) (gin m c) (bin m c)
/-- The means: row `128 t + l` at `(t, 0, l)`. -/
def out8 (c : Dev nD) : Vec Ideal S16x1x128 .f32 := fun i =>
  RowMath.mean (xin m c ⟨(i 0).val * 128 + (i 2).val, by
    have h0 : (i 0).val < 16 := (i 0).isLt; have h2 : (i 2).val < 128 := (i 2).isLt; omega⟩)
/-- The reciprocal deviations. -/
def out9 (c : Dev nD) : Vec Ideal S16x1x128 .f32 := fun i =>
  Values.rdev (xin m c ⟨(i 0).val * 128 + (i 2).val, by
    have h0 : (i 0).val < 16 := (i 0).isLt; have h2 : (i 2).val < 128 := (i 2).isLt; omega⟩)

theorem final4 (c : Dev nD) : (dats m 0 c).arrAt 4 cfg0.N = out4 m c := by
  refine (dats m 0 c).arrAt_eq_of_after_last 4 t0_0 (by decide +kernel) _ fun (j : S2048x16384.Idx) => ?_
  blk_simp
  rw [after0_4]
  frame_out
  unfold k0_pay20 k0_pay21 k0_pay22
  simp only [ld_x, ld_w, ld_h]
  obtain ⟨r, k, rfl⟩ : ∃ (r : Fin 2048) (k : Fin 16384), j = ix2 r k := ⟨j 0, j 1, eq_ix2 j⟩
  refine (code_apply _ _ _ _ _ _).trans ?_
  rw [row_in, g_in, b_in, h_in]
  rfl

theorem final5 (c : Dev nD) : (dats m 0 c).arrAt 5 cfg0.N = out5 m c := by
  refine (dats m 0 c).arrAt_eq_of_after_last 5 t0_0 (by decide +kernel) _ fun (j : S16384x2048.Idx) => ?_
  blk_simp
  rw [after0_5]
  frame_out
  unfold k0_pay18 k0_pay19 k0_pay21 k0_pay22
  simp only [ld_x, ld_w, ld_h]
  obtain ⟨k, r, rfl⟩ : ∃ (k : Fin 16384) (r : Fin 2048), j = ix2 k r := ⟨j 0, j 1, eq_ix2 j⟩
  refine (codeT_apply _ _ _ _ _ _).trans ?_
  rw [row_in, g_in, b_in, h_in]
  rfl

theorem final6 (c : Dev nD) : (dats m 0 c).arrAt 6 cfg0.N = out6 m c := by
  refine (dats m 0 c).arrAt_eq_of_after_last 6 t0_0 (by decide +kernel) _ fun (j : S1x1.Idx) => ?_
  blk_simp
  rw [after0_6]
  frame_out
  unfold k0_pay21 k0_pay22
  simp only [ld_x, ld_w, ld_h]
  rw [eq_ix2 j, show j 0 = (0 : Fin 1) from Subsingleton.elim (α := Fin 1) _ _,
    show j 1 = (0 : Fin 1) from Subsingleton.elim (α := Fin 1) _ _]
  refine (scale_apply _).trans ?_
  rw [h_in]
  rfl

theorem final7 (c : Dev nD) : (dats m 0 c).arrAt 7 cfg0.N = out7 m c := by
  refine (dats m 0 c).arrAt_eq_of_after_last 7 t0_0 (by decide +kernel) _ fun (j : S1x1.Idx) => ?_
  blk_simp
  rw [after0_7]
  frame_out
  unfold k0_pay20
  simp only [ld_x, ld_w, ld_h]
  rw [eq_ix2 j, show j 0 = (0 : Fin 1) from Subsingleton.elim (α := Fin 1) _ _,
    show j 1 = (0 : Fin 1) from Subsingleton.elim (α := Fin 1) _ _]
  refine (amax_apply _ _ _).trans ?_
  rw [g_in, b_in]
  simp only [funext fun r => row_in m c t0_0 r]
  rfl

theorem final8 (c : Dev nD) : (dats m 0 c).arrAt 8 cfg0.N = out8 m c := by
  refine (dats m 0 c).arrAt_eq_of_after_last 8 t0_0 (by decide +kernel) _ fun (j : S16x1x128.Idx) => ?_
  blk_simp
  rw [after0_8]
  frame_out
  unfold k0_pay18
  simp only [ld_x, ld_w, ld_h]
  rw [eq_ix3 j, show j 1 = (0 : Fin 1) from Subsingleton.elim (α := Fin 1) _ _]
  refine (mu_out _ _ _).trans ?_
  rw [row_in]
  rfl

theorem final9 (c : Dev nD) : (dats m 0 c).arrAt 9 cfg0.N = out9 m c := by
  refine (dats m 0 c).arrAt_eq_of_after_last 9 t0_0 (by decide +kernel) _ fun (j : S16x1x128.Idx) => ?_
  blk_simp
  rw [after0_9]
  frame_out
  unfold k0_pay19
  simp only [ld_x, ld_w, ld_h]
  rw [eq_ix3 j, show j 1 = (0 : Fin 1) from Subsingleton.elim (α := Fin 1) _ _]
  refine (rs_out _ _ _).trans ?_
  rw [row_in]
  rfl

/-- The reference runs, and every final state has the six values in its result arrays and the arguments unchanged. -/
theorem run : θ_run defs (onTc (τ := τ) (main (F := Ideal))) ⟨m, fun _ => 0, ρ⟩ (fun r => ∀ c : Dev nD,
      r.2.mem ((c.tc : Thread nD τ).loc main_v4_0) = out4 m c
      ∧ r.2.mem ((c.tc : Thread nD τ).loc main_v4_1) = out5 m c
      ∧ r.2.mem ((c.tc : Thread nD τ).loc main_v4_2) = out6 m c
      ∧ r.2.mem ((c.tc : Thread nD τ).loc main_v4_3) = out7 m c
      ∧ r.2.mem ((c.tc : Thread nD τ).loc main_v4_4) = out8 m c
      ∧ r.2.mem ((c.tc : Thread nD τ).loc main_v4_5) = out9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 4).trans (final4 m c),
      ((h c).1 5).trans (final5 m c),
      ((h c).1 6).trans (final6 m c),
      ((h c).1 7).trans (final7 m c),
      ((h c).1 8).trans (final8 m c),
      ((h c).1 9).trans (final9 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.ReferenceIdeal.Ref
-- ==== Proof.PreRange.lean ====
/-
  THE PRECONDITION READ: where the function `scale_in_range` of the arguments is all ones, the greatest entry of the
  history is in range.
-/
module

public import proofs.«01_k».proof.Pre_scale_in_range
public import proofs.«01_k».proof.Proof.Gen.Pre_scale_in_range
public import proofs.«01_k».proof.Proof.ScaleMath
public import proofs.«01_k».proof.Proof.Values
public import Idealize.ShloMosaic.Lib.Pointwise

@[expose] public section

set_option maxRecDepth 16384

noncomputable section

open Idealize.ShloMosaic

namespace Cert.Pre_scale_in_range

/-- One-bit words: `a ∧ (b ∨ c)` of comparisons is one exactly when the comparisons hold so. -/
theorem bits (p q r : Bool) (h : IntOp.andi (BitVec.ofBool p) (IntOp.ori (BitVec.ofBool q) (BitVec.ofBool r)) = 1#1) :
    p = true ∧ (q = true ∨ r = true) := by
  revert p q r
  decide

/-- The greatest entry of the history is in range where the function is all ones. -/
theorem inRange (X : FVec Ideal S2x1024x16384 .bf16) (G B : FVec Ideal S16384 .f32) (H : FVec Ideal S16 .f32)
    (h : fn (F := Ideal) X G B H = fun _ => 1#1) : ScaleMath.InRange (Values.hmax fun k => (H (ix1 k) : EReal)) := by
  have h0 := congrFun h (fun a => a.elim0)
  revert h0
  unfold fn ScaleMath.InRange ScaleMath.quo Values.hmax
  pointwise []
  intro h0
  obtain ⟨h1, h2⟩ := bits _ _ _ h0
  exact ⟨of_decide_eq_true h1, h2.imp of_decide_eq_true of_decide_eq_true⟩

end Cert.Pre_scale_in_range

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameKernel
public import proofs.«01_k».proof.Proof.RunIdeal
public import proofs.«01_k».proof.Proof.Gen.Pre_scale_in_range
public import proofs.«01_k».proof.Proof.KerRun
public import proofs.«01_k».proof.Proof.RefRun
public import proofs.«01_k».proof.Proof.PreRange
public import Idealize.ShloMosaic.Adequacy
public import Idealize.ShloMosaic.Init

@[expose] public section

noncomputable section

namespace Cert.Proof

open Idealize.ShloMosaic Idealize.SL.Sem Cert.Kernel

section Args

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- From memories agreeing on the arguments, the kernel's and the reference's arguments read alike. -/
theorem args_eq (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)) :
    ReferenceIdeal.Ref.xin m' c = KernelIdeal.Ker.xin m c ∧ ReferenceIdeal.Ref.gin m' c = KernelIdeal.Ker.gin m c
      ∧ ReferenceIdeal.Ref.bin m' c = KernelIdeal.Ker.bin m c ∧ ReferenceIdeal.Ref.hin m' c = KernelIdeal.Ker.hin m c :=
  ⟨funext fun _ => funext fun _ => congrFun h.1 _, funext fun _ => congrFun h.2.1 _, funext fun _ => congrFun h.2.2.1 _,
    funext fun _ => congrFun h.2.2.2 _⟩

variable (hx : ReferenceIdeal.Ref.xin m' c = KernelIdeal.Ker.xin m c) (hg : ReferenceIdeal.Ref.gin m' c = KernelIdeal.Ker.gin m c)
  (hb : ReferenceIdeal.Ref.bin m' c = KernelIdeal.Ker.bin m c) (hh : ReferenceIdeal.Ref.hin m' c = KernelIdeal.Ker.hin m c)

include hx hg hb hh in
/-- The codes agree. -/
theorem out4_eq : ReferenceIdeal.Ref.out4 m' c = KernelIdeal.Ker.out4 m c := by
  unfold ReferenceIdeal.Ref.out4 KernelIdeal.Ker.out4
  rw [hx, hg, hb, hh]

include hx hg hb hh in
/-- The transposed codes agree. -/
theorem out5_eq : ReferenceIdeal.Ref.out5 m' c = KernelIdeal.Ker.out5 m c := by
  unfold ReferenceIdeal.Ref.out5 KernelIdeal.Ker.out5
  rw [hx, hg, hb, hh]

include hh in
/-- The scales agree. -/
theorem out6_eq : ReferenceIdeal.Ref.out6 m' c = KernelIdeal.Ker.out6 m c := by
  unfold ReferenceIdeal.Ref.out6 KernelIdeal.Ker.out6
  rw [hh]

include hx hg hb in
/-- The largest absolute values agree. -/
theorem out7_eq : ReferenceIdeal.Ref.out7 m' c = KernelIdeal.Ker.out7 m c := by
  unfold ReferenceIdeal.Ref.out7 KernelIdeal.Ker.out7
  rw [hx, hg, hb]

include hx in
/-- The means agree. -/
theorem out8_eq : ReferenceIdeal.Ref.out8 m' c = KernelIdeal.Ker.out8 m c := by
  unfold ReferenceIdeal.Ref.out8 KernelIdeal.Ker.out8
  rw [hx]

include hx in
/-- The reciprocal deviations agree. -/
theorem out9_eq : ReferenceIdeal.Ref.out9 m' c = KernelIdeal.Ker.out9 m c := by
  unfold ReferenceIdeal.Ref.out9 KernelIdeal.Ker.out9
  rw [hx]

end Args

/-- Kernel and reference compute the same six arrays over the extended reals, when the greatest entry of the history is in
    range. -/
theorem algebraic : Cert.algebraic_KernelIdeal_ReferenceIdeal_pre_scale_in_range (hKernelIdeal := Cert.KernelIdeal.Gen.facts)
    (hReferenceIdeal := Cert.ReferenceIdeal.Gen.facts) (hPre_scale_in_range := Cert.Pre_scale_in_range.Gen.facts) :=
  fun m g m' g' hp hargs =>
  have hr : ∀ c, ScaleMath.InRange (Values.hmax (KernelIdeal.Ker.hin m c)) := fun c => Cert.Pre_scale_in_range.inRange _ _ _ _ (hp c)
  ⟨KernelIdeal.Ker.out4 m, KernelIdeal.Ker.out5 m, KernelIdeal.Ker.out6 m, KernelIdeal.Ker.out7 m, KernelIdeal.Ker.out8 m, KernelIdeal.Ker.out9 m,
    KernelIdeal.Ker.run m g hr,
    (θ_run ReferenceIdeal.defs _ _).mono (fun _ h c => by
      obtain ⟨h4, h5, h6, h7, h8, h9, ha⟩ := h c
      obtain ⟨hx, hg, hb, hh⟩ := args_eq m m' c (hargs c)
      exact ⟨h4.trans (out4_eq m m' c hx hg hb hh), h5.trans (out5_eq m m' c hx hg hb hh), h6.trans (out6_eq m m' c hh),
        h7.trans (out7_eq m m' c hx hg hb), h8.trans (out8_eq m m' c hx), h9.trans (out9_eq m m' c hx), ha⟩)
      (ReferenceIdeal.Ref.run m' g')⟩

/-- Kernel, ideal kernel and reference terminate without fault and leave their arguments as they were; the ideal kernel is
    the kernel's program over the extended reals; its six results are the reference's. -/
theorem claim : Cert.Claim := ⟨Cert.Kernel.Gen.facts, Cert.KernelIdeal.Gen.facts, Cert.ReferenceIdeal.Gen.facts, Cert.Pre_scale_in_range.Gen.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, trivial, algebraic⟩

end Cert.Proof

end
